-- ==== Defs.lean ====
def Pre_Kernel [hPre_tokens : Cert.Pre_tokens.Facts] (m : (ℓ : Loc Cert.Kernel.nD Cert.Kernel.τ Cert.Kernel.sig) → Buf (Elt Bits) ℓ) : Prop :=
  ∀ c : Dev Cert.Kernel.nD,
    (Cert.Pre_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_tokens : Cert.Pre_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens [hPre_tokens : Cert.Pre_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_tokens : Cert.Pre_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tokens [hReferenceIdeal : Cert.ReferenceIdeal.Facts] [hPre_tokens : Cert.Pre_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tokens : Cert.Pre_tokens.Facts),
    quiescent_Kernel (hKernel := hKernel) (hPre_tokens := hPre_tokens)
    ∧ quiescent_KernelIdeal (hKernelIdeal := hKernelIdeal) (hPre_tokens := hPre_tokens)
    ∧ quiescent_ReferenceIdeal (hReferenceIdeal := hReferenceIdeal)
    ∧ quiescent_ReferenceIdeal_pre_tokens (hReferenceIdeal := hReferenceIdeal) (hPre_tokens := hPre_tokens)
    ∧ preserves_Kernel_KernelIdeal
    ∧ algebraic_KernelIdeal_ReferenceIdeal (hKernelIdeal := hKernelIdeal) (hReferenceIdeal := hReferenceIdeal) (hPre_tokens := hPre_tokens)
-- ==== Pre_tokens.lean ====
abbrev S200 : Shape := ⟨1, ![200]⟩
abbrev S100000x128 : Shape := ⟨2, ![100000, 128]⟩
abbrev S25600x128 : Shape := ⟨2, ![25600, 128]⟩
abbrev S128 : Shape := ⟨1, ![128]⟩
abbrev S128x100000 : Shape := ⟨2, ![128, 100000]⟩
abbrev S100000 : Shape := ⟨1, ![100000]⟩
abbrev S_ : Shape := ⟨0, ![]⟩

class Facts : Prop where
  bcast_S_S200 : S_.BroadcastsInDim S200 (![] : Fin 0 → Fin S200.rank)

variable [Facts]

def fn {F : FTy → Type} [FloatOps F] (main_arg0 : IVec S200 32) (main_arg1 : FVec F S100000x128 .f32) (main_arg2 : FVec F S25600x128 .f32) (main_arg3 : FVec F S128 .f32) (main_arg4 : FVec F S128x100000 .f32) (main_arg5 : FVec F S100000 .f32) : IVec S200 1 :=
  let main_c : IVec S_ 32 := constantI S_ 32 0#32
  let main_v0 : IVec S200 32 := broadcastInDim S200 ![] bcast_S_S200 main_c
  let main_v1 : IVec S200 1 := cmpi .sge main_arg0 main_v0
  let main_c_0 : IVec S_ 32 := constantI S_ 32 100000#32
  let main_v2 : IVec S200 32 := broadcastInDim S200 ![] bcast_S_S200 main_c_0
  let main_v3 : IVec S200 1 := cmpi .slt main_arg0 main_v2
  let main_v4 : IVec S200 1 := andi main_v1 main_v3
  main_v4
-- ==== Kernel.lean ====
abbrev S200 : Shape := ⟨1, ![200]⟩
abbrev S100000x128 : Shape := ⟨2, ![100000, 128]⟩
abbrev S25600x128 : Shape := ⟨2, ![25600, 128]⟩
abbrev S128 : Shape := ⟨1, ![128]⟩
abbrev S128x100000 : Shape := ⟨2, ![128, 100000]⟩
abbrev S100000 : Shape := ⟨1, ![100000]⟩
abbrev S1x128 : Shape := ⟨2, ![1, 128]⟩
abbrev S1x100000 : Shape := ⟨2, ![1, 100000]⟩
abbrev S12800x128 : Shape := ⟨2, ![12800, 128]⟩
abbrev S16384x128 : Shape := ⟨2, ![16384, 128]⟩
abbrev S16384 : Shape := ⟨1, ![16384]⟩
abbrev S1x16384 : Shape := ⟨2, ![1, 16384]⟩
abbrev S1x25600 : Shape := ⟨2, ![1, 25600]⟩
abbrev S2 : Shape := ⟨1, ![2]⟩
abbrev S1 : Shape := ⟨1, ![1]⟩
abbrev S_ : Shape := ⟨0, ![]⟩
abbrev S1x12800 : Shape := ⟨2, ![1, 12800]⟩

abbrev nBuf : Space → Nat
  | .hbm => 8
  | .vmem => 11
  | .smem => 1
  | _ => 0

abbrev bufTy : (tb : Table) → Fin (tcTables nBuf tb) → BufTy
  | .hbm, ⟨0, _⟩ => ⟨S100000x128, .f32⟩
  | .hbm, ⟨1, _⟩ => ⟨S25600x128, .f32⟩
  | .hbm, ⟨2, _⟩ => ⟨S128, .f32⟩
  | .hbm, ⟨3, _⟩ => ⟨S128x100000, .f32⟩
  | .hbm, ⟨4, _⟩ => ⟨S100000, .f32⟩
  | .hbm, ⟨5, _⟩ => ⟨S1x128, .f32⟩
  | .hbm, ⟨6, _⟩ => ⟨S100000x128, .f32⟩
  | .hbm, ⟨7, _⟩ => ⟨S1x100000, .f32⟩
  | .local _ .vmem, ⟨0, _⟩ => ⟨S12800x128, .f32⟩
  | .local _ .vmem, ⟨1, _⟩ => ⟨S12800x128, .f32⟩
  | .local _ .vmem, ⟨2, _⟩ => ⟨S1x128, .f32⟩
  | .local _ .vmem, ⟨3, _⟩ => ⟨S16384x128, .f32⟩
  | .local _ .vmem, ⟨4, _⟩ => ⟨S16384x128, .f32⟩
  | .local _ .vmem, ⟨5, _⟩ => ⟨S16384, .f32⟩
  | .local _ .vmem, ⟨6, _⟩ => ⟨S16384, .f32⟩
  | .local _ .vmem, ⟨7, _⟩ => ⟨S1x16384, .f32⟩
  | .local _ .vmem, ⟨8, _⟩ => ⟨S1x16384, .f32⟩
  | .local _ .vmem, ⟨9, _⟩ => ⟨S1x25600, .f32⟩
  | .local _ .vmem, ⟨10, _⟩ => ⟨S1x128, .f32⟩
  | .local _ .smem, ⟨0, _⟩ => ⟨S200, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_5 : BitVec 32 := 0#32
  let c25_i32 : BitVec 32 := 25#32
  let v13 : BitVec 32 := Scalar.addi c0_i32_5 c25_i32
  let c1_i32 : BitVec 32 := 1#32
  ⟨c0_i32_5, v13, c1_i32⟩
def k0_off1 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32 : BitVec 32 := 8#32
  let v14 : BitVec 32 := Scalar.muli arg11 c8_i32
  let c0_i32_7 : BitVec 32 := 0#32
  let v15 : BitVec 32 := Scalar.addi v14 c0_i32_7
  let v33 : Index := Scalar.indexCast v15
  ![v33.toNat]
def k0_off2 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32 : BitVec 32 := 8#32
  let v14 : BitVec 32 := Scalar.muli arg11 c8_i32
  let c0_i32_7 : BitVec 32 := 0#32
  let v15 : BitVec 32 := Scalar.addi v14 c0_i32_7
  let c0_i32_8 : BitVec 32 := 0#32
  let v17 : BitVec 1 := Scalar.cmpi .sgt v15 c0_i32_8
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c100_i32 : BitVec 32 := 100#32
  let c0_i32_10 : BitVec 32 := 0#32
  let v22 : BitVec 1 := Scalar.cmpi .sgt c100_i32 c0_i32_10
  let v23 : BitVec 32 := Scalar.extui v22
  let c0_i32_11 : BitVec 32 := 0#32
  let v24 : BitVec 1 := Scalar.cmpi .slt c100_i32 c0_i32_11
  let v25 : BitVec 32 := Scalar.extui v24
  let v26 : BitVec 32 := Scalar.subi v23 v25
  let v27 : BitVec 1 := Scalar.cmpi .ne v21 v26
  let v28 : BitVec 32 := Scalar.remsi v15 c100_i32
  let c0_i32_12 : BitVec 32 := 0#32
  let v29 : BitVec 1 := Scalar.cmpi .ne v28 c0_i32_12
  let v30 : BitVec 1 := Scalar.andi v27 v29
  let v16 : BitVec 32 := Scalar.divsi v15 c100_i32
  let c1_i32_13 : BitVec 32 := 1#32
  let v31 : BitVec 32 := Scalar.subi v16 c1_i32_13
  let v32 : BitVec 32 := Scalar.select v30 v31 v16
  ![v32.toNat]
def k0_off3 (k0_t1 : Fin k0_t1_loop.trips) : Fin 2 → Nat :=
  let c0_i32_14 : BitVec 32 := 0#32
  let c0_i32_5 : BitVec 32 := 0#32
  let c1_i32 : BitVec 32 := 1#32
  let arg11 : BitVec 32 := Scf.iv c0_i32_5 c1_i32 k0_t1
  let c8_i32 : BitVec 32 := 8#32
  let v14 : BitVec 32 := Scalar.muli arg11 c8_i32
  let c0_i32_7 : BitVec 32 := 0#32
  let v15 : BitVec 32 := Scalar.addi v14 c0_i32_7
  let c128_i32 : BitVec 32 := 128#32
  let v35 : BitVec 32 := Scalar.muli v15 c128_i32
  ![0, v35.toNat]
def k0_off4 (v34 : BitVec 32) : Fin 2 → Nat :=
  let c0_i32_15 : BitVec 32 := 0#32
  ![v34.toNat, 0]

def k0_chk1 (i : grid0.Coords) (v34 : BitVec 32) : Prop :=
  (∀ (k0_h1 : k0_cond1 i = 1#1), ∀ a, (k0_off4 v34) a + S1x128.size a ≤ S100000x128.size a)
theorem k0_off4_inb : ∀ (i : grid0.Coords) (v34 : BitVec 32) (k0_hw1 : k0_chk1 i v34), ∀ (k0_h1 : k0_cond1 i = 1#1), ∀ a, (k0_off4 v34) a + S1x128.size a ≤ S100000x128.size a := fun i v34 k0_hw1 k0_h1 => k0_hw1 k0_h1

def k0_off5 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_16 : BitVec 32 := 8#32
  let v40 : BitVec 32 := Scalar.muli arg11 c8_i32_16
  let c1_i32_17 : BitVec 32 := 1#32
  let v41 : BitVec 32 := Scalar.addi v40 c1_i32_17
  let v59 : Index := Scalar.indexCast v41
  ![v59.toNat]
def k0_off6 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_16 : BitVec 32 := 8#32
  let v40 : BitVec 32 := Scalar.muli arg11 c8_i32_16
  let c1_i32_17 : BitVec 32 := 1#32
  let v41 : BitVec 32 := Scalar.addi v40 c1_i32_17
  let c0_i32_19 : BitVec 32 := 0#32
  let v43 : BitVec 1 := Scalar.cmpi .sgt v41 c0_i32_19
  let v44 : BitVec 32 := Scalar.extui v43
  let c0_i32_20 : BitVec 32 := 0#32
  let v45 : BitVec 1 := Scalar.cmpi .slt v41 c0_i32_20
  let v46 : BitVec 32 := Scalar.extui v45
  let v47 : BitVec 32 := Scalar.subi v44 v46
  let c100_i32_18 : BitVec 32 := 100#32
  let c0_i32_21 : BitVec 32 := 0#32
  let v48 : BitVec 1 := Scalar.cmpi .sgt c100_i32_18 c0_i32_21
  let v49 : BitVec 32 := Scalar.extui v48
  let c0_i32_22 : BitVec 32 := 0#32
  let v50 : BitVec 1 := Scalar.cmpi .slt c100_i32_18 c0_i32_22
  let v51 : BitVec 32 := Scalar.extui v50
  let v52 : BitVec 32 := Scalar.subi v49 v51
  let v53 : BitVec 1 := Scalar.cmpi .ne v47 v52
  let v54 : BitVec 32 := Scalar.remsi v41 c100_i32_18
  let c0_i32_23 : BitVec 32 := 0#32
  let v55 : BitVec 1 := Scalar.cmpi .ne v54 c0_i32_23
  let v56 : BitVec 1 := Scalar.andi v53 v55
  let v42 : BitVec 32 := Scalar.divsi v41 c100_i32_18
  let c1_i32_24 : BitVec 32 := 1#32
  let v57 : BitVec 32 := Scalar.subi v42 c1_i32_24
  let v58 : BitVec 32 := Scalar.select v56 v57 v42
  ![v58.toNat]
def k0_off7 (k0_t1 : Fin k0_t1_loop.trips) : Fin 2 → Nat :=
  let c0_i32_26 : BitVec 32 := 0#32
  let c0_i32_5 : BitVec 32 := 0#32
  let c1_i32 : BitVec 32 := 1#32
  let arg11 : BitVec 32 := Scf.iv c0_i32_5 c1_i32 k0_t1
  let c8_i32_16 : BitVec 32 := 8#32
  let v40 : BitVec 32 := Scalar.muli arg11 c8_i32_16
  let c1_i32_17 : BitVec 32 := 1#32
  let v41 : BitVec 32 := Scalar.addi v40 c1_i32_17
  let c128_i32_25 : BitVec 32 := 128#32
  let v61 : BitVec 32 := Scalar.muli v41 c128_i32_25
  ![0, v61.toNat]
def k0_off8 (v60 : BitVec 32) : Fin 2 → Nat :=
  let c0_i32_27 : BitVec 32 := 0#32
  ![v60.toNat, 0]

def k0_chk2 (i : grid0.Coords) (v60 : BitVec 32) : Prop :=
  (∀ (k0_h1 : k0_cond1 i = 1#1), ∀ a, (k0_off8 v60) a + S1x128.size a ≤ S100000x128.size a)
theorem k0_off8_inb : ∀ (i : grid0.Coords) (v60 : BitVec 32) (k0_hw2 : k0_chk2 i v60), ∀ (k0_h1 : k0_cond1 i = 1#1), ∀ a, (k0_off8 v60) a + S1x128.size a ≤ S100000x128.size a := fun i v60 k0_hw2 k0_h1 => k0_hw2 k0_h1

def k0_off9 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_28 : BitVec 32 := 8#32
  let v66 : BitVec 32 := Scalar.muli arg11 c8_i32_28
  let c2_i32_29 : BitVec 32 := 2#32
  let v67 : BitVec 32 := Scalar.addi v66 c2_i32_29
  let v85 : Index := Scalar.indexCast v67
  ![v85.toNat]
def k0_off10 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_28 : BitVec 32 := 8#32
  let v66 : BitVec 32 := Scalar.muli arg11 c8_i32_28
  let c2_i32_29 : BitVec 32 := 2#32
  let v67 : BitVec 32 := Scalar.addi v66 c2_i32_29
  let c0_i32_31 : BitVec 32 := 0#32
  let v69 : BitVec 1 := Scalar.cmpi .sgt v67 c0_i32_31
  let v70 : BitVec 32 := Scalar.extui v69
  let c0_i32_32 : BitVec 32 := 0#32
  let v71 : BitVec 1 := Scalar.cmpi .slt v67 c0_i32_32
  let v72 : BitVec 32 := Scalar.extui v71
  let v73 : BitVec 32 := Scalar.subi v70 v72
  let c100_i32_30 : BitVec 32 := 100#32
  let c0_i32_33 : BitVec 32 := 0#32
  let v74 : BitVec 1 := Scalar.cmpi .sgt c100_i32_30 c0_i32_33
  let v75 : BitVec 32 := Scalar.extui v74
  let c0_i32_34 : BitVec 32 := 0#32
  let v76 : BitVec 1 := Scalar.cmpi .slt c100_i32_30 c0_i32_34
  let v77 : BitVec 32 := Scalar.extui v76
  let v78 : BitVec 32 := Scalar.subi v75 v77
  let v79 : BitVec 1 := Scalar.cmpi .ne v73 v78
  let v80 : BitVec 32 := Scalar.remsi v67 c100_i32_30
  let c0_i32_35 : BitVec 32 := 0#32
  let v81 : BitVec 1 := Scalar.cmpi .ne v80 c0_i32_35
  let v82 : BitVec 1 := Scalar.andi v79 v81
  let v68 : BitVec 32 := Scalar.divsi v67 c100_i32_30
  let c1_i32_36 : BitVec 32 := 1#32
  let v83 : BitVec 32 := Scalar.subi v68 c1_i32_36
  let v84 : BitVec 32 := Scalar.select v82 v83 v68
  ![v84.toNat]
def k0_off11 (k0_t1 : Fin k0_t1_loop.trips) : Fin 2 → Nat :=
  let c0_i32_38 : BitVec 32 := 0#32
  let c0_i32_5 : BitVec 32 := 0#32
  let c1_i32 : BitVec 32 := 1#32
  let arg11 : BitVec 32 := Scf.iv c0_i32_5 c1_i32 k0_t1
  let c8_i32_28 : BitVec 32 := 8#32
  let v66 : BitVec 32 := Scalar.muli arg11 c8_i32_28
  let c2_i32_29 : BitVec 32 := 2#32
  let v67 : BitVec 32 := Scalar.addi v66 c2_i32_29
  let c128_i32_37 : BitVec 32 := 128#32
  let v87 : BitVec 32 := Scalar.muli v67 c128_i32_37
  ![0, v87.toNat]
def k0_off12 (v86 : BitVec 32) : Fin 2 → Nat :=
  let c0_i32_39 : BitVec 32 := 0#32
  ![v86.toNat, 0]

def k0_chk3 (i : grid0.Coords) (v86 : BitVec 32) : Prop :=
  (∀ (k0_h1 : k0_cond1 i = 1#1), ∀ a, (k0_off12 v86) a + S1x128.size a ≤ S100000x128.size a)
theorem k0_off12_inb : ∀ (i : grid0.Coords) (v86 : BitVec 32) (k0_hw3 : k0_chk3 i v86), ∀ (k0_h1 : k0_cond1 i = 1#1), ∀ a, (k0_off12 v86) a + S1x128.size a ≤ S100000x128.size a := fun i v86 k0_hw3 k0_h1 => k0_hw3 k0_h1

def k0_off13 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_40 : BitVec 32 := 8#32
  let v92 : BitVec 32 := Scalar.muli arg11 c8_i32_40
  let c3_i32 : BitVec 32 := 3#32
  let v93 : BitVec 32 := Scalar.addi v92 c3_i32
  let v111 : Index := Scalar.indexCast v93
  ![v111.toNat]
def k0_off14 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_40 : BitVec 32 := 8#32
  let v92 : BitVec 32 := Scalar.muli arg11 c8_i32_40
  let c3_i32 : BitVec 32 := 3#32
  let v93 : BitVec 32 := Scalar.addi v92 c3_i32
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c100_i32_41 : BitVec 32 := 100#32
  let c0_i32_44 : BitVec 32 := 0#32
  let v100 : BitVec 1 := Scalar.cmpi .sgt c100_i32_41 c0_i32_44
  let v101 : BitVec 32 := Scalar.extui v100
  let c0_i32_45 : BitVec 32 := 0#32
  let v102 : BitVec 1 := Scalar.cmpi .slt c100_i32_41 c0_i32_45
  let v103 : BitVec 32 := Scalar.extui v102
  let v104 : BitVec 32 := Scalar.subi v101 v103
  let v105 : BitVec 1 := Scalar.cmpi .ne v99 v104
  let v106 : BitVec 32 := Scalar.remsi v93 c100_i32_41
  let c0_i32_46 : BitVec 32 := 0#32
  let v107 : BitVec 1 := Scalar.cmpi .ne v106 c0_i32_46
  let v108 : BitVec 1 := Scalar.andi v105 v107
  let v94 : BitVec 32 := Scalar.divsi v93 c100_i32_41
  let c1_i32_47 : BitVec 32 := 1#32
  let v109 : BitVec 32 := Scalar.subi v94 c1_i32_47
  let v110 : BitVec 32 := Scalar.select v108 v109 v94
  ![v110.toNat]
def k0_off15 (k0_t1 : Fin k0_t1_loop.trips) : Fin 2 → Nat :=
  let c0_i32_49 : BitVec 32 := 0#32
  let c0_i32_5 : BitVec 32 := 0#32
  let c1_i32 : BitVec 32 := 1#32
  let arg11 : BitVec 32 := Scf.iv c0_i32_5 c1_i32 k0_t1
  let c8_i32_40 : BitVec 32 := 8#32
  let v92 : BitVec 32 := Scalar.muli arg11 c8_i32_40
  let c3_i32 : BitVec 32 := 3#32
  let v93 : BitVec 32 := Scalar.addi v92 c3_i32
  let c128_i32_48 : BitVec 32 := 128#32
  let v113 : BitVec 32 := Scalar.muli v93 c128_i32_48
  ![0, v113.toNat]
def k0_off16 (v112 : BitVec 32) : Fin 2 → Nat :=
  let c0_i32_50 : BitVec 32 := 0#32
  ![v112.toNat, 0]

def k0_chk4 (i : grid0.Coords) (v112 : BitVec 32) : Prop :=
  (∀ (k0_h1 : k0_cond1 i = 1#1), ∀ a, (k0_off16 v112) a + S1x128.size a ≤ S100000x128.size a)
theorem k0_off16_inb : ∀ (i : grid0.Coords) (v112 : BitVec 32) (k0_hw4 : k0_chk4 i v112), ∀ (k0_h1 : k0_cond1 i = 1#1), ∀ a, (k0_off16 v112) a + S1x128.size a ≤ S100000x128.size a := fun i v112 k0_hw4 k0_h1 => k0_hw4 k0_h1

def k0_off17 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_51 : BitVec 32 := 8#32
  let v118 : BitVec 32 := Scalar.muli arg11 c8_i32_51
  let c4_i32 : BitVec 32 := 4#32
  let v119 : BitVec 32 := Scalar.addi v118 c4_i32
  let v137 : Index := Scalar.indexCast v119
  ![v137.toNat]
def k0_off18 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_51 : BitVec 32 := 8#32
  let v118 : BitVec 32 := Scalar.muli arg11 c8_i32_51
  let c4_i32 : BitVec 32 := 4#32
  let v119 : BitVec 32 := Scalar.addi v118 c4_i32
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c100_i32_52 : BitVec 32 := 100#32
  let c0_i32_55 : BitVec 32 := 0#32
  let v126 : BitVec 1 := Scalar.cmpi .sgt c100_i32_52 c0_i32_55
  let v127 : BitVec 32 := Scalar.extui v126
  let c0_i32_56 : BitVec 32 := 0#32
  let v128 : BitVec 1 := Scalar.cmpi .slt c100_i32_52 c0_i32_56
  let v129 : BitVec 32 := Scalar.extui v128
  let v130 : BitVec 32 := Scalar.subi v127 v129
  let v131 : BitVec 1 := Scalar.cmpi .ne v125 v130
  let v132 : BitVec 32 := Scalar.remsi v119 c100_i32_52
  let c0_i32_57 : BitVec 32 := 0#32
  let v133 : BitVec 1 := Scalar.cmpi .ne v132 c0_i32_57
  let v134 : BitVec 1 := Scalar.andi v131 v133
  let v120 : BitVec 32 := Scalar.divsi v119 c100_i32_52
  let c1_i32_58 : BitVec 32 := 1#32
  let v135 : BitVec 32 := Scalar.subi v120 c1_i32_58
  let v136 : BitVec 32 := Scalar.select v134 v135 v120
  ![v136.toNat]
def k0_off19 (k0_t1 : Fin k0_t1_loop.trips) : Fin 2 → Nat :=
  let c0_i32_60 : BitVec 32 := 0#32
  let c0_i32_5 : BitVec 32 := 0#32
  let c1_i32 : BitVec 32 := 1#32
  let arg11 : BitVec 32 := Scf.iv c0_i32_5 c1_i32 k0_t1
  let c8_i32_51 : BitVec 32 := 8#32
  let v118 : BitVec 32 := Scalar.muli arg11 c8_i32_51
  let c4_i32 : BitVec 32 := 4#32
  let v119 : BitVec 32 := Scalar.addi v118 c4_i32
  let c128_i32_59 : BitVec 32 := 128#32
  let v139 : BitVec 32 := Scalar.muli v119 c128_i32_59
  ![0, v139.toNat]
def k0_off20 (v138 : BitVec 32) : Fin 2 → Nat :=
  let c0_i32_61 : BitVec 32 := 0#32
  ![v138.toNat, 0]

def k0_chk5 (i : grid0.Coords) (v138 : BitVec 32) : Prop :=
  (∀ (k0_h1 : k0_cond1 i = 1#1), ∀ a, (k0_off20 v138) a + S1x128.size a ≤ S100000x128.size a)
theorem k0_off20_inb : ∀ (i : grid0.Coords) (v138 : BitVec 32) (k0_hw5 : k0_chk5 i v138), ∀ (k0_h1 : k0_cond1 i = 1#1), ∀ a, (k0_off20 v138) a + S1x128.size a ≤ S100000x128.size a := fun i v138 k0_hw5 k0_h1 => k0_hw5 k0_h1

def k0_off21 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_62 : BitVec 32 := 8#32
  let v144 : BitVec 32 := Scalar.muli arg11 c8_i32_62
  let c5_i32 : BitVec 32 := 5#32
  let v145 : BitVec 32 := Scalar.addi v144 c5_i32
  let v163 : Index := Scalar.indexCast v145
  ![v163.toNat]
def k0_off22 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_62 : BitVec 32 := 8#32
  let v144 : BitVec 32 := Scalar.muli arg11 c8_i32_62
  let c5_i32 : BitVec 32 := 5#32
  let v145 : BitVec 32 := Scalar.addi v144 c5_i32
  let c0_i32_64 : BitVec 32 := 0#32
  let v147 : BitVec 1 := Scalar.cmpi .sgt v145 c0_i32_64
  let v148 : BitVec 32 := Scalar.extui v147
  let c0_i32_65 : BitVec 32 := 0#32
  let v149 : BitVec 1 := Scalar.cmpi .slt v145 c0_i32_65
  let v150 : BitVec 32 := Scalar.extui v149
  let v151 : BitVec 32 := Scalar.subi v148 v150
  let c100_i32_63 : BitVec 32 := 100#32
  let c0_i32_66 : BitVec 32 := 0#32
  let v152 : BitVec 1 := Scalar.cmpi .sgt c100_i32_63 c0_i32_66
  let v153 : BitVec 32 := Scalar.extui v152
  let c0_i32_67 : BitVec 32 := 0#32
  let v154 : BitVec 1 := Scalar.cmpi .slt c100_i32_63 c0_i32_67
  let v155 : BitVec 32 := Scalar.extui v154
  let v156 : BitVec 32 := Scalar.subi v153 v155
  let v157 : BitVec 1 := Scalar.cmpi .ne v151 v156
  let v158 : BitVec 32 := Scalar.remsi v145 c100_i32_63
  let c0_i32_68 : BitVec 32 := 0#32
  let v159 : BitVec 1 := Scalar.cmpi .ne v158 c0_i32_68
  let v160 : BitVec 1 := Scalar.andi v157 v159
  let v146 : BitVec 32 := Scalar.divsi v145 c100_i32_63
  let c1_i32_69 : BitVec 32 := 1#32
  let v161 : BitVec 32 := Scalar.subi v146 c1_i32_69
  let v162 : BitVec 32 := Scalar.select v160 v161 v146
  ![v162.toNat]
def k0_off23 (k0_t1 : Fin k0_t1_loop.trips) : Fin 2 → Nat :=
  let c0_i32_71 : BitVec 32 := 0#32
  let c0_i32_5 : BitVec 32 := 0#32
  let c1_i32 : BitVec 32 := 1#32
  let arg11 : BitVec 32 := Scf.iv c0_i32_5 c1_i32 k0_t1
  let c8_i32_62 : BitVec 32 := 8#32
  let v144 : BitVec 32 := Scalar.muli arg11 c8_i32_62
  let c5_i32 : BitVec 32 := 5#32
  let v145 : BitVec 32 := Scalar.addi v144 c5_i32
  let c128_i32_70 : BitVec 32 := 128#32
  let v165 : BitVec 32 := Scalar.muli v145 c128_i32_70
  ![0, v165.toNat]
def k0_off24 (v164 : BitVec 32) : Fin 2 → Nat :=
  let c0_i32_72 : BitVec 32 := 0#32
  ![v164.toNat, 0]

def k0_chk6 (i : grid0.Coords) (v164 : BitVec 32) : Prop :=
  (∀ (k0_h1 : k0_cond1 i = 1#1), ∀ a, (k0_off24 v164) a + S1x128.size a ≤ S100000x128.size a)
theorem k0_off24_inb : ∀ (i : grid0.Coords) (v164 : BitVec 32) (k0_hw6 : k0_chk6 i v164), ∀ (k0_h1 : k0_cond1 i = 1#1), ∀ a, (k0_off24 v164) a + S1x128.size a ≤ S100000x128.size a := fun i v164 k0_hw6 k0_h1 => k0_hw6 k0_h1

def k0_off25 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_73 : BitVec 32 := 8#32
  let v170 : BitVec 32 := Scalar.muli arg11 c8_i32_73
  let c6_i32 : BitVec 32 := 6#32
  let v171 : BitVec 32 := Scalar.addi v170 c6_i32
  let v189 : Index := Scalar.indexCast v171
  ![v189.toNat]
def k0_off26 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_73 : BitVec 32 := 8#32
  let v170 : BitVec 32 := Scalar.muli arg11 c8_i32_73
  let c6_i32 : BitVec 32 := 6#32
  let v171 : BitVec 32 := Scalar.addi v170 c6_i32
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c100_i32_74 : BitVec 32 := 100#32
  let c0_i32_77 : BitVec 32 := 0#32
  let v178 : BitVec 1 := Scalar.cmpi .sgt c100_i32_74 c0_i32_77
  let v179 : BitVec 32 := Scalar.extui v178
  let c0_i32_78 : BitVec 32 := 0#32
  let v180 : BitVec 1 := Scalar.cmpi .slt c100_i32_74 c0_i32_78
  let v181 : BitVec 32 := Scalar.extui v180
  let v182 : BitVec 32 := Scalar.subi v179 v181
  let v183 : BitVec 1 := Scalar.cmpi .ne v177 v182
  let v184 : BitVec 32 := Scalar.remsi v171 c100_i32_74
  let c0_i32_79 : BitVec 32 := 0#32
  let v185 : BitVec 1 := Scalar.cmpi .ne v184 c0_i32_79
  let v186 : BitVec 1 := Scalar.andi v183 v185
  let v172 : BitVec 32 := Scalar.divsi v171 c100_i32_74
  let c1_i32_80 : BitVec 32 := 1#32
  let v187 : BitVec 32 := Scalar.subi v172 c1_i32_80
  let v188 : BitVec 32 := Scalar.select v186 v187 v172
  ![v188.toNat]
def k0_off27 (k0_t1 : Fin k0_t1_loop.trips) : Fin 2 → Nat :=
  let c0_i32_82 : BitVec 32 := 0#32
  let c0_i32_5 : BitVec 32 := 0#32
  let c1_i32 : BitVec 32 := 1#32
  let arg11 : BitVec 32 := Scf.iv c0_i32_5 c1_i32 k0_t1
  let c8_i32_73 : BitVec 32 := 8#32
  let v170 : BitVec 32 := Scalar.muli arg11 c8_i32_73
  let c6_i32 : BitVec 32 := 6#32
  let v171 : BitVec 32 := Scalar.addi v170 c6_i32
  let c128_i32_81 : BitVec 32 := 128#32
  let v191 : BitVec 32 := Scalar.muli v171 c128_i32_81
  ![0, v191.toNat]
def k0_off28 (v190 : BitVec 32) : Fin 2 → Nat :=
  let c0_i32_83 : BitVec 32 := 0#32
  ![v190.toNat, 0]

def k0_chk7 (i : grid0.Coords) (v190 : BitVec 32) : Prop :=
  (∀ (k0_h1 : k0_cond1 i = 1#1), ∀ a, (k0_off28 v190) a + S1x128.size a ≤ S100000x128.size a)
theorem k0_off28_inb : ∀ (i : grid0.Coords) (v190 : BitVec 32) (k0_hw7 : k0_chk7 i v190), ∀ (k0_h1 : k0_cond1 i = 1#1), ∀ a, (k0_off28 v190) a + S1x128.size a ≤ S100000x128.size a := fun i v190 k0_hw7 k0_h1 => k0_hw7 k0_h1

def k0_off29 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_84 : BitVec 32 := 8#32
  let v196 : BitVec 32 := Scalar.muli arg11 c8_i32_84
  let c7_i32 : BitVec 32 := 7#32
  let v197 : BitVec 32 := Scalar.addi v196 c7_i32
  let v215 : Index := Scalar.indexCast v197
  ![v215.toNat]
def k0_off30 (k0_t1 : Fin k0_t1_loop.trips) : Fin 1 → Nat :=
  let c0_i32_5 : BitVec 32 := 0#32
  let c1_i32 : BitVec 32 := 1#32
  let arg11 : BitVec 32 := Scf.iv c0_i32_5 c1_i32 k0_t1
  let c8_i32_84 : BitVec 32 := 8#32
  let v196 : BitVec 32 := Scalar.muli arg11 c8_i32_84
  let c7_i32 : BitVec 32 := 7#32
  let v197 : BitVec 32 := Scalar.addi v196 c7_i32
  let c0_i32_86 : BitVec 32 := 0#32
  let v199 : BitVec 1 := Scalar.cmpi .sgt v197 c0_i32_86
  let v200 : BitVec 32 := Scalar.extui v199
  let c0_i32_87 : BitVec 32 := 0#32
  let v201 : BitVec 1 := Scalar.cmpi .slt v197 c0_i32_87
  let v202 : BitVec 32 := Scalar.extui v201
  let v203 : BitVec 32 := Scalar.subi v200 v202
  let c100_i32_85 : BitVec 32 := 100#32
  let c0_i32_88 : BitVec 32 := 0#32
  let v204 : BitVec 1 := Scalar.cmpi .sgt c100_i32_85 c0_i32_88
  let v205 : BitVec 32 := Scalar.extui v204
  let c0_i32_89 : BitVec 32 := 0#32
  let v206 : BitVec 1 := Scalar.cmpi .slt c100_i32_85 c0_i32_89
  let v207 : BitVec 32 := Scalar.extui v206
  let v208 : BitVec 32 := Scalar.subi v205 v207
  let v209 : BitVec 1 := Scalar.cmpi .ne v203 v208
  let v210 : BitVec 32 := Scalar.remsi v197 c100_i32_85
  let c0_i32_90 : BitVec 32 := 0#32
  let v211 : BitVec 1 := Scalar.cmpi .ne v210 c0_i32_90
  let v212 : BitVec 1 := Scalar.andi v209 v211
  let v198 : BitVec 32 := Scalar.divsi v197 c100_i32_85
  let c1_i32_91 : BitVec 32 := 1#32
  let v213 : BitVec 32 := Scalar.subi v198 c1_i32_91
  let v214 : BitVec 32 := Scalar.select v212 v213 v198
  ![v214.toNat]
def k0_off31 (k0_t1 : Fin k0_t1_loop.trips) : Fin 2 → Nat :=
  let c0_i32_93 : BitVec 32 := 0#32
  let c0_i32_5 : BitVec 32 := 0#32
  let c1_i32 : BitVec 32 := 1#32
  let arg11 : BitVec 32 := Scf.iv c0_i32_5 c1_i32 k0_t1
  let c8_i32_84 : BitVec 32 := 8#32
  let v196 : BitVec 32 := Scalar.muli arg11 c8_i32_84
  let c7_i32 : BitVec 32 := 7#32
  let v197 : BitVec 32 := Scalar.addi v196 c7_i32
  let c128_i32_92 : BitVec 32 := 128#32
  let v217 : BitVec 32 := Scalar.muli v197 c128_i32_92
  ![0, v217.toNat]
def k0_off32 (v216 : BitVec 32) : Fin 2 → Nat :=
  let c0_i32_94 : BitVec 32 := 0#32
  ![v216.toNat, 0]

def k0_chk8 (i : grid0.Coords) (v216 : BitVec 32) : Prop :=
  (∀ (k0_h1 : k0_cond1 i = 1#1), ∀ a, (k0_off32 v216) a + S1x128.size a ≤ S100000x128.size a)
theorem k0_off32_inb : ∀ (i : grid0.Coords) (v216 : BitVec 32) (k0_hw8 : k0_chk8 i v216), ∀ (k0_h1 : k0_cond1 i = 1#1), ∀ a, (k0_off32 v216) a + S1x128.size a ≤ S100000x128.size a := fun i v216 k0_hw8 k0_h1 => k0_hw8 k0_h1

def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

@[reducible] def k0_t2_loop (i : grid0.Coords) : Scf.Loop 32 :=
  let arg0 : BitVec 32 := BitVec.ofNat 32 (i 0).val
  let c100_i32 : BitVec 32 := 100#32
  let v9 : BitVec 32 := Scalar.muli arg0 c100_i32
  let c1_i32 : BitVec 32 := 1#32
  let v10 : BitVec 32 := Scalar.addi arg0 c1_i32
  let c100_i32_4 : BitVec 32 := 100#32
  let v11 : BitVec 32 := Scalar.muli v10 c100_i32_4
  let v12 : BitVec 32 := Scalar.subi v11 v9
  let c1_i32_6 : BitVec 32 := 1#32
  let v14 : BitVec 32 := Scalar.divsi v12 c1_i32_6
  let v15 : BitVec 32 := Scalar.muli v14 c1_i32_6
  let v16 : BitVec 32 := Scalar.addi v9 v15
  let c1_i32_7 : BitVec 32 := 1#32
  ⟨v9, v16, c1_i32_7⟩
def k0_off33 (i : grid0.Coords) (k0_t2 : Fin (k0_t2_loop i).trips) : Fin 1 → Nat :=
  let arg0 : BitVec 32 := BitVec.ofNat 32 (i 0).val
  let c100_i32 : BitVec 32 := 100#32
  let v9 : BitVec 32 := Scalar.muli arg0 c100_i32
  let c1_i32_7 : BitVec 32 := 1#32
  let arg11 : BitVec 32 := Scf.iv v9 c1_i32_7 k0_t2
  let v29 : Index := Scalar.indexCast arg11
  ![v29.toNat]
def k0_off34 (i : grid0.Coords) : Fin 1 → Nat :=
  let arg0 : BitVec 32 := BitVec.ofNat 32 (i 0).val
  ![arg0.toNat]
def k0_off35 (i : grid0.Coords) (k0_t2 : Fin (k0_t2_loop i).trips) : Fin 2 → Nat :=
  let c0_i32_15 : BitVec 32 := 0#32
  let arg0 : BitVec 32 := BitVec.ofNat 32 (i 0).val
  let c100_i32 : BitVec 32 := 100#32
  let v9 : BitVec 32 := Scalar.muli arg0 c100_i32
  let c1_i32_7 : BitVec 32 := 1#32
  let arg11 : BitVec 32 := Scf.iv v9 c1_i32_7 k0_t2
  let c128_i32 : BitVec 32 := 128#32
  let v31 : BitVec 32 := Scalar.muli arg11 c128_i32
  ![0, v31.toNat]
def k0_off36 (v30 : BitVec 32) : Fin 2 → Nat :=
  let c0_i32_16 : BitVec 32 := 0#32
  ![v30.toNat, 0]

def k0_chk9 (i : grid0.Coords) (v30 : BitVec 32) : Prop :=
  (∀ (k0_h2 : k0_cond2 i = 1#1), ∀ a, (k0_off36 v30) a + S1x128.size a ≤ S100000x128.size a)
theorem k0_off36_inb : ∀ (i : grid0.Coords) (v30 : BitVec 32) (k0_hw9 : k0_chk9 i v30), ∀ (k0_h2 : k0_cond2 i = 1#1), ∀ a, (k0_off36 v30) a + S1x128.size a ≤ S100000x128.size a := fun i v30 k0_hw9 k0_h2 => k0_hw9 k0_h2

@[reducible] def k0_t3_loop (i : grid0.Coords) : Scf.Loop 32 :=
  let arg0 : BitVec 32 := BitVec.ofNat 32 (i 0).val
  let c100_i32 : BitVec 32 := 100#32
  let v9 : BitVec 32 := Scalar.muli arg0 c100_i32
  let c1_i32 : BitVec 32 := 1#32
  let v10 : BitVec 32 := Scalar.addi arg0 c1_i32
  let c100_i32_4 : BitVec 32 := 100#32
  let v11 : BitVec 32 := Scalar.muli v10 c100_i32_4
  let v12 : BitVec 32 := Scalar.subi v11 v9
  let c1_i32_6 : BitVec 32 := 1#32
  let v14 : BitVec 32 := Scalar.divsi v12 c1_i32_6
  let v15 : BitVec 32 := Scalar.muli v14 c1_i32_6
  let v16 : BitVec 32 := Scalar.addi v9 v15
  let v13 : BitVec 32 := Scalar.addi v9 v12
  let c1_i32_8 : BitVec 32 := 1#32
  ⟨v16, v13, c1_i32_8⟩
def k0_off37 (i : grid0.Coords) (k0_t3 : Fin (k0_t3_loop i).trips) : Fin 1 → Nat :=
  let arg0 : BitVec 32 := BitVec.ofNat 32 (i 0).val
  let c100_i32 : BitVec 32 := 100#32
  let v9 : BitVec 32 := Scalar.muli arg0 c100_i32
  let c1_i32 : BitVec 32 := 1#32
  let v10 : BitVec 32 := Scalar.addi arg0 c1_i32
  let c100_i32_4 : BitVec 32 := 100#32
  let v11 : BitVec 32 := Scalar.muli v10 c100_i32_4
  let v12 : BitVec 32 := Scalar.subi v11 v9
  let c1_i32_6 : BitVec 32 := 1#32
  let v14 : BitVec 32 := Scalar.divsi v12 c1_i32_6
  let v15 : BitVec 32 := Scalar.muli v14 c1_i32_6
  let v16 : BitVec 32 := Scalar.addi v9 v15
  let c1_i32_8 : BitVec 32 := 1#32
  let arg11 : BitVec 32 := Scf.iv v16 c1_i32_8 k0_t3
  let v29 : Index := Scalar.indexCast arg11
  ![v29.toNat]
def k0_off38 (i : grid0.Coords) : Fin 1 → Nat :=
  let arg0 : BitVec 32 := BitVec.ofNat 32 (i 0).val
  ![arg0.toNat]
def k0_off39 (i : grid0.Coords) (k0_t3 : Fin (k0_t3_loop i).trips) : Fin 2 → Nat :=
  let c0_i32_15 : BitVec 32 := 0#32
  let arg0 : BitVec 32 := BitVec.ofNat 32 (i 0).val
  let c100_i32 : BitVec 32 := 100#32
  let v9 : BitVec 32 := Scalar.muli arg0 c100_i32
  let c1_i32 : BitVec 32 := 1#32
  let v10 : BitVec 32 := Scalar.addi arg0 c1_i32
  let c100_i32_4 : BitVec 32 := 100#32
  let v11 : BitVec 32 := Scalar.muli v10 c100_i32_4
  let v12 : BitVec 32 := Scalar.subi v11 v9
  let c1_i32_6 : BitVec 32 := 1#32
  let v14 : BitVec 32 := Scalar.divsi v12 c1_i32_6
  let v15 : BitVec 32 := Scalar.muli v14 c1_i32_6
  let v16 : BitVec 32 := Scalar.addi v9 v15
  let c1_i32_8 : BitVec 32 := 1#32
  let arg11 : BitVec 32 := Scf.iv v16 c1_i32_8 k0_t3
  let c128_i32 : BitVec 32 := 128#32
  let v31 : BitVec 32 := Scalar.muli arg11 c128_i32
  ![0, v31.toNat]
def k0_off40 (v30 : BitVec 32) : Fin 2 → Nat :=
  let c0_i32_16 : BitVec 32 := 0#32
  ![v30.toNat, 0]

def k0_chk10 (i : grid0.Coords) (k0_t3 : Fin (k0_t3_loop i).trips) (v30 : BitVec 32) : Prop :=
  (∀ (k0_h2 : k0_cond2 i = 1#1), ∀ a, (k0_off40 v30) a + S1x128.size a ≤ S100000x128.size a)
theorem k0_off40_inb : ∀ (i : grid0.Coords) (k0_t3 : Fin (k0_t3_loop i).trips) (v30 : BitVec 32) (k0_hw10 : k0_chk10 i k0_t3 v30), ∀ (k0_h2 : k0_cond2 i = 1#1), ∀ a, (k0_off40 v30) a + S1x128.size a ≤ S100000x128.size a := fun i k0_t3 v30 k0_hw10 k0_h2 => k0_hw10 k0_h2

def k0_off41 (i : grid0.Coords) : Fin 2 → Nat :=
  let c0_10 : Index := 0#32
  let arg0 : BitVec 32 := BitVec.ofNat 32 (i 0).val
  let c12800_i32 : BitVec 32 := 12800#32
  let v18 : BitVec 32 := Scalar.muli arg0 c12800_i32
  let v19 : Index := Scalar.indexCast v18
  ![0, v19.toNat]
def k0_cond3 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

def cc0_transform_1 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 1 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  ![v1.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S200 : Shape := ⟨1, ![200]⟩
abbrev S100000x128 : Shape := ⟨2, ![100000, 128]⟩
abbrev S25600x128 : Shape := ⟨2, ![25600, 128]⟩
abbrev S128 : Shape := ⟨1, ![128]⟩
abbrev S128x100000 : Shape := ⟨2, ![128, 100000]⟩
abbrev S100000 : Shape := ⟨1, ![100000]⟩
abbrev S_ : Shape := ⟨0, ![]⟩
abbrev S200x1 : Shape := ⟨2, ![200, 1]⟩
abbrev S1 : Shape := ⟨1, ![1]⟩
abbrev S1x1 : Shape := ⟨2, ![1, 1]⟩
abbrev S200x128 : Shape := ⟨2, ![200, 128]⟩
abbrev S1x25600 : Shape := ⟨2, ![1, 25600]⟩
abbrev S1x128 : Shape := ⟨2, ![1, 128]⟩
abbrev S1x100000 : Shape := ⟨2, ![1, 100000]⟩

abbrev nBuf : Space → Nat
  | .hbm => 39
  | .vmem => 0
  | .smem => 0
  | _ => 0

abbrev bufTy : (tb : Table) → Fin (tcTables nBuf tb) → BufTy
  | .hbm, ⟨0, _⟩ => ⟨S200, .i32⟩
  | .hbm, ⟨1, _⟩ => ⟨S100000x128, .f32⟩
  | .hbm, ⟨2, _⟩ => ⟨S25600x128, .f32⟩
  | .hbm, ⟨3, _⟩ => ⟨S128, .f32⟩
  | .hbm, ⟨4, _⟩ => ⟨S128x100000, .f32⟩
  | .hbm, ⟨5, _⟩ => ⟨S100000, .f32⟩
  | .hbm, ⟨6, _⟩ => ⟨S_, .i32⟩
  | .hbm, ⟨7, _⟩ => ⟨S200, .i32⟩
  | .hbm, ⟨8, _⟩ => ⟨S200, .i1⟩
  | .hbm, ⟨9, _⟩ => ⟨S_, .i32⟩
  | .hbm, ⟨10, _⟩ => ⟨S200, .i32⟩
  | .hbm, ⟨11, _⟩ => ⟨S200, .i32⟩
  | .hbm, ⟨12, _⟩ => ⟨S200, .i32⟩
  | .hbm, ⟨13, _⟩ => ⟨S200x1, .i32⟩
  | .hbm, ⟨14, _⟩ => ⟨S1, .i32⟩
  | .hbm, ⟨15, _⟩ => ⟨S_, .i32⟩
  | .hbm, ⟨16, _⟩ => ⟨S200x1, .i32⟩
  | .hbm, ⟨17, _⟩ => ⟨S200x1, .i1⟩
  | .hbm, ⟨18, _⟩ => ⟨S1x1, .i32⟩
  | .hbm, ⟨19, _⟩ => ⟨S200x1, .i32⟩
  | .hbm, ⟨20, _⟩ => ⟨S200x1, .i1⟩
  | .hbm, ⟨21, _⟩ => ⟨S200x1, .i1⟩
  | .hbm, ⟨22, _⟩ => ⟨S_, .i1⟩
  | .hbm, ⟨23, _⟩ => ⟨S200, .i1⟩
  | .hbm, ⟨24, _⟩ => ⟨S200x128, .f32⟩
  | .hbm, ⟨25, _⟩ => ⟨S200x128, .i1⟩
  | .hbm, ⟨26, _⟩ => ⟨S_, .f32⟩
  | .hbm, ⟨27, _⟩ => ⟨S200x128, .f32⟩
  | .hbm, ⟨28, _⟩ => ⟨S200x128, .f32⟩
  | .hbm, ⟨29, _⟩ => ⟨S1x25600, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S1x100000, .f32⟩
  | .hbm, ⟨37, _⟩ => ⟨S1x100000, .f32⟩
  | .hbm, ⟨38, _⟩ => ⟨S1x100000, .f32⟩
  | _, _ => ⟨S200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩

abbrev nD : Nat := 1
abbrev τ : Topo := Topo.v7x

variable {F : FTy → Type} [FloatOps F]
-- ==== Proof.IdealRows.lean ====
/- The pieces the kernel's gather works on, and one row's copy.

   The kernel copies row `word r` of the embedding table into block `r` of its scratch row `e`, for `r = 0 … 199`, rows `0 … 99` on
   one DMA cell and rows `100 … 199` on another. This module names those blocks, rows and cells, what each copy delivers, and what the
   core holds once the copies below `r` are started (`started`); and proves the three steps one row is made of: reading the row's
   word, the range check of that word, starting the copy. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Blocks, rows, words -/

/-- The table of token numbers, the embedding table and the gathered row, whole. -/
abbrev tbl : Memref sig .tc .smem S200 .i32 := Memref.whole main_arg0
abbrev emb : Memref sig .tc .hbm S100000x128 .f32 := Memref.whole main_arg1
abbrev erow : Memref sig .tc .vmem S1x25600 .f32 := Memref.whole cc0_scratch0

theorem eBlk_inb (r : Fin 200) : ∀ a, (![0, 128 * r.val] : Fin 2 → Nat) a + S1x128.size a ≤ S1x25600.size a := by
  have := r.isLt; intro a; fin_cases a
  · show 0 + 1 ≤ 1; omega
  · show 128 * r.val + 128 ≤ 25600; omega

theorem mBlk_inb (v : ℕ) (hv : v < 100000) : ∀ a, (![v, 0] : Fin 2 → Nat) a + S1x128.size a ≤ S100000x128.size a := by
  intro a; fin_cases a
  · show v + 1 ≤ 100000; omega
  · show 0 + 128 ≤ 128; omega

/-- Block `r` of the gathered row: its columns `128 r … 128 r + 127`. -/
def eBlk (r : Fin 200) : Memref sig .tc .vmem S1x128 .f32 :=
  erow.slice (Rect.unit (s := S1x25600) ![0, 128 * r.val] S1x128.size (eBlk_inb r)) (fun _ => rfl)

/-- Row `v` of the embedding table. -/
def mBlk (v : ℕ) (hv : v < 100000) : Memref sig .tc .hbm S1x128 .f32 :=
  emb.slice (Rect.unit (s := S100000x128) ![v, 0] S1x128.size (mBlk_inb v hv)) (fun _ => rfl)

/-- The place of token `r` in the table. -/
def at1 (r : Fin 200) : S200.Idx
  | ⟨0, _⟩ => r
  | ⟨_ + 1, h⟩ => absurd h (Nat.not_lt.2 (Nat.le_add_left _ _))

/-- The word there. -/
def word (ix : S200.Idx → BitVec 32) (r : Fin 200) : BitVec 32 := ix (at1 r)

/-- Every token number is a row of the embedding table. -/
def InRange (ix : S200.Idx → BitVec 32) : Prop := ∀ r : Fin 200, (word ix r).toNat < 100000

/-- Element `(v, l)` of the embedding table. -/
def at2 (v : ℕ) (hv : v < 100000) (l : Fin 128) : S100000x128.Idx
  | ⟨0, _⟩ => (⟨v, hv⟩ : Fin 100000)
  | ⟨1, _⟩ => l
  | ⟨_ + 2, h⟩ => absurd h (Nat.not_lt.2 (Nat.le_add_left _ _))

theorem col_lt (y : S1x25600.Idx) : (y 1).val / 128 < 200 := by
  have : (y 1).val < 25600 := (y 1).isLt
  omega

/-- The gathered row: column `j` is column `j % 128` of the row of the table that token `j / 128` names. -/
def gathered (ix : S200.Idx → BitVec 32) (hix : InRange ix) (T : S100000x128.Idx → Elt F .f32) : S1x25600.Idx → Elt F .f32 := fun y =>
  T (at2 (word ix ⟨(y 1).val / 128, col_lt y⟩).toNat (hix _) ⟨(y 1).val % 128, Nat.mod_lt _ (by decide)⟩)

/-! ## What is held -/

section Held

variable (c : Dev nD) (ix : S200.Idx → BitVec 32) (hix : InRange ix) (T : S100000x128.Idx → Elt F .f32)

/-- Block `r` of the gathered row, held at contents `f` of the whole row. -/
abbrev holdE (r : Fin 200) (f : S1x25600.Idx → Elt F .f32) : sProp 𝕄 :=
  (eBlk r).view.loc (c : Thread nD τ) ↦[(eBlk r).view.set]{fullShare} f

/-- The row of the table that token `r` names, held for reading under the share kept for copy `r`. -/
abbrev holdM (r : Fin 200) : sProp 𝕄 :=
  (mBlk (word ix r).toNat (hix r)).view.loc (c : Thread nD τ) ↦[(mBlk (word ix r).toNat (hix r)).view.set]{Transfers.shareTokN fullShare r.val} T

/-- What copy `r` delivers: its block gathered, and its share of the row back. -/
def delivers (r : Fin 200) : sProp 𝕄 := iprop(holdE c r (gathered ix hix T) ∗ holdM c ix hix T r)

instance delivers_storable (r : Fin 200) : BI.Storable (upEmb : UEmb _ 𝕄) (delivers c ix hix T r) := by
  unfold delivers
  have h1 : BI.Storable (upEmb : UEmb _ 𝕄) (holdE c r (gathered ix hix T)) := by
    exact BI.Region.storable_held ..
  have h2 : BI.Storable (upEmb : UEmb _ 𝕄) (holdM c ix hix T r) := by
    exact BI.Region.storable_held ..
  infer_instance

/-- The row that copy `t` of cell `b` brings. -/
def rowOf (b : Fin 2) (t : Fin 100) : Fin 200 := ⟨100 * b.val + t.val, by omega⟩

/-- One copy's credit on its cell. -/
def credit : ℕ := (eBlk 0).view.dmaCredit

/-- The cell of rows `100 b … 100 b + 99`. -/
def cell (b : Fin 2) : DmaSem sig := ⟨9 + b.val, by have := b.isLt; show 9 + b.val < 11; omega⟩

/-- The hundred copies of cell `b`, `j` of them started and `u` units of them waited for. -/
abbrev batch (b : Fin 2) (j u : ℕ) : sProp 𝕄 :=
  Transfers.Batch (countersEmb (U := Pipeline.UD sig nD τ)) (c : Thread nD τ) (.dma (cell b)) () credit (fun t => delivers c ix hix T (rowOf b t)) j u

/-- The copies of the rows below `r` started, none waited for, the blocks and table rows of the others in hand. -/
def started (f : S1x25600.Idx → Elt F .f32) (r : ℕ) : sProp 𝕄 :=
  iprop(batch c ix hix T 0 (min r 100) 0 ∗ batch c ix hix T 1 (r - 100) 0
    ∗ bigSep (Ring.rangeSet 200 r 200) (fun k => holdE c k f) ∗ bigSep (Ring.rangeSet 200 r 200) (fun k => holdM c ix hix T k))

/-- Started copies count up on the first cell while `r < 100`, -/
theorem started_fst (f : S1x25600.Idx → Elt F .f32) (r : ℕ) (hr : r < 100) :
    started c ix hix T f r = iprop(batch c ix hix T 0 r 0 ∗ batch c ix hix T 1 0 0
      ∗ bigSep (Ring.rangeSet 200 r 200) (fun k => holdE c k f) ∗ bigSep (Ring.rangeSet 200 r 200) (fun k => holdM c ix hix T k)) := by
  unfold started; rw [show min r 100 = r by omega, show r - 100 = 0 by omega]

/-- and on the second from then on. -/
theorem started_snd (f : S1x25600.Idx → Elt F .f32) (r : ℕ) (hr : 100 ≤ r) :
    started c ix hix T f r = iprop(batch c ix hix T 0 100 0 ∗ batch c ix hix T 1 (r - 100) 0
      ∗ bigSep (Ring.rangeSet 200 r 200) (fun k => holdE c k f) ∗ bigSep (Ring.rangeSet 200 r 200) (fun k => holdM c ix hix T k)) := by
  unfold started; rw [show min r 100 = 100 by omega]

/-- Block `r` written with the row that token `r` names is block `r` of the gathered row. -/
theorem block_gathered (r : Fin 200) (f : S1x25600.Idx → Elt F .f32) :
    ∀ y ∈ (eBlk r).view.set,
      (eBlk r).view.write (Elt F) f ((mBlk (word ix r).toNat (hix r)).view.read (Elt F) T) Finset.univ y = gathered ix hix T y := by
  intro y hy
  obtain ⟨j, -, rfl⟩ := Finset.mem_map.mp hy
  have hj0 : (j 0).val < 1 := (j 0).isLt
  have hj1 : (j 1).val < 128 := (j 1).isLt
  refine (View.write_emb_of_mem (v := (eBlk r).view) _ _ (Finset.mem_univ j)).trans ?_
  have key : ∀ y : S1x25600.Idx, (y 1).val = 128 * r.val + 1 * (j 1).val →
      T ((mBlk (word ix r).toNat (hix r)).view.emb j) = gathered ix hix T y := by
    intro y hcol
    unfold gathered
    have hr : (⟨(y 1).val / 128, col_lt _⟩ : Fin 200) = r := Fin.ext (by show (y 1).val / 128 = r.val; rw [hcol]; omega)
    have hl : (⟨(y 1).val % 128, Nat.mod_lt _ (by decide)⟩ : Fin 128) = ⟨(j 1).val, hj1⟩ :=
      Fin.ext (by show (y 1).val % 128 = (j 1).val; rw [hcol]; omega)
    congr 1
    rw [hl]
    funext a
    match a with
    | ⟨0, _⟩ =>
      refine Fin.ext ?_
      show (word ix r).toNat + 1 * (j 0).val = (word ix ⟨(y 1).val / 128, col_lt _⟩).toNat
      rw [hr]; omega
    | ⟨1, _⟩ => refine Fin.ext ?_; show 0 + 1 * (j 1).val = (j 1).val; omega
  exact key _ rfl

theorem amount_credit (r : Fin 200) (b : Fin 2) : (eBlk r).view.amount (.dma (cell b)) = credit := rfl

/-- Copy `t` of cell `b` starts: its block and its share of the table's row are lent, its delivery recorded. -/
theorem copy_batch (f : S1x25600.Idx → Elt F .f32) (b : Fin 2) (t : Fin 100) (sm : DmaSem sig) (hsm : sm = cell b)
    {hs : (mBlk (word ix (rowOf b t)).toNat (hix _)).view.WordExact} {hd : (eBlk (rowOf b t)).view.WordExact}
    {ht : DmaTarget.Typed (nD := nD) (τ := τ) (p := .tc) .hbm (.dma sm) (.here (eBlk (rowOf b t)))} (Q : PUnit → sProp 𝕄) :
    iprop((batch c ix hix T b t.val 0 ∗ holdE c (rowOf b t) f ∗ holdM c ix hix T (rowOf b t)) ∗ (batch c ix hix T b (t.val + 1) 0 -∗ Q ⟨⟩))
      ⊢ wp frame (wpE defs₀ Variants.none (c : Thread nD τ) none) Set.univ
        (Prog.lift (.enqueueDma (mBlk (word ix (rowOf b t)).toNat (hix _)) (.here (eBlk (rowOf b t))) (.dma sm) hs hd ht)) Q := by
  subst hsm
  have hD : iprop(((eBlk (rowOf b t)).view.loc (c : Thread nD τ) ↦[(eBlk (rowOf b t)).view.set]{fullShare}
        ((eBlk (rowOf b t)).view.write (Elt F) f (ReadAs.same.apply ((mBlk (word ix (rowOf b t)).toNat (hix _)).view.read (Elt F) T)) Finset.univ))
      ∗ holdM c ix hix T (rowOf b t)) ⊢ delivers c ix hix T (rowOf b ⟨t.val, t.isLt⟩) := by
    unfold delivers
    refine sep_mono (Entails.of_eq ?_) .rfl
    exact pointsTo_congr (block_gathered ix hix T (rowOf b t) f)
  iintro ⟨⟨HB, HE, HM⟩, HQ⟩
  iapply (Transfers.wp_dmaBatch (countersEmb (U := Pipeline.UD sig nD τ)) Variants.none (c : Thread nD τ) none (via := .same)
      (src := mBlk (word ix (rowOf b t)).toNat (hix _)) (dst := eBlk (rowOf b t)) (sm := .dma (cell b)) (Λ := Λ₀) (defs := defs₀) (k := .ret)
      (Q := Q) (D := fun t => delivers c ix hix T (rowOf b t)) () credit (amount_credit _ b) (Finset.Subset.refl _) t.isLt (Nat.zero_le _) hD) $$ [HB HE HM]
  · isplitl [HM]; · iexact HM
    isplitl [HE]; · iexact HE
    iexact HB
  iintro HB
  rw [wp_ret]
  imodintro
  iapply HQ $$ [HB]
  iexact HB

/-- What row `r`'s copy needs, out of what is held before it, and what comes back of it. -/
theorem started_open (f : S1x25600.Idx → Elt F .f32) (b : Fin 2) (t : Fin 100) :
    started c ix hix T f (100 * b.val + t.val) ⊢ iprop((batch c ix hix T b t.val 0 ∗ holdE c (rowOf b t) f ∗ holdM c ix hix T (rowOf b t))
      ∗ (batch c ix hix T b (t.val + 1) 0 -∗ started c ix hix T f (100 * b.val + t.val + 1))) := by
  have ht := t.isLt
  match b with
  | ⟨0, hb⟩ =>
    have e : 100 * (⟨0, hb⟩ : Fin 2).val + t.val = t.val := by simp
    have er : rowOf ⟨0, hb⟩ t = ⟨t.val, by omega⟩ := Fin.ext e
    rw [e, er, started_fst c ix hix T f t.val ht, Ring.bigSep_rangeSet_head (by omega : t.val < 200) (by omega : t.val < 200),
      Ring.bigSep_rangeSet_head (by omega : t.val < 200) (by omega : t.val < 200)]
    iintro ⟨HB0, HB1, ⟨HE, HEs⟩, HM, HMs⟩
    isplitl [HB0 HE HM]
    · isplitl [HB0]; · iexact HB0
      isplitl [HE]; · iexact HE
      iexact HM
    iintro HB
    unfold started
    rw [show min (t.val + 1) 100 = t.val + 1 by omega, show t.val + 1 - 100 = 0 by omega]
    isplitl [HB]; · iexact HB
    isplitl [HB1]; · iexact HB1
    isplitl [HEs]; · iexact HEs
    iexact HMs
  | ⟨1, hb⟩ =>
    have e : 100 * (⟨1, hb⟩ : Fin 2).val + t.val = 100 + t.val := by simp
    have er : rowOf ⟨1, hb⟩ t = ⟨100 + t.val, by omega⟩ := Fin.ext e
    rw [e, er, started_snd c ix hix T f (100 + t.val) (by omega), Ring.bigSep_rangeSet_head (by omega : 100 + t.val < 200) (by omega : 100 + t.val < 200),
      Ring.bigSep_rangeSet_head (by omega : 100 + t.val < 200) (by omega : 100 + t.val < 200), show 100 + t.val - 100 = t.val by omega]
    iintro ⟨HB0, HB1, ⟨HE, HEs⟩, HM, HMs⟩
    isplitl [HB1 HE HM]
    · isplitl [HB1]; · iexact HB1
      isplitl [HE]; · iexact HE
      iexact HM
    iintro HB
    rw [started_snd c ix hix T f (100 + t.val + 1) (by omega), show 100 + t.val + 1 - 100 = t.val + 1 by omega]
    isplitl [HB0]; · iexact HB0
    isplitl [HB]; · iexact HB
    isplitl [HEs]; · iexact HEs
    iexact HMs

/-- The cell at place `b` of the kernel's pair. -/
theorem cell_at (b : Fin 2) {o : Fin 1 → Nat} (e : o = ![b.val]) {h : ∀ a, o a + S1.size a ≤ S2.size a} :
    ((cc0_scratch2.slice (Rect.unit (s := S2) o S1.size h)).squeeze S_ squeezes_S1_S_).sem = cell b := by
  subst e
  have key : ∀ b : Fin 2, ∀ h : ∀ a, (![b.val] : Fin 1 → Nat) a + S1.size a ≤ S2.size a,
      ((cc0_scratch2.slice (Rect.unit (s := S2) ![b.val] S1.size h)).squeeze S_ squeezes_S1_S_).sem.val = 9 + b.val := by
    decide +kernel
  exact Fin.ext (key b h)

/-- The table of token numbers, held for reading. -/
abbrev tblHeld (q : PosShare TreeShare) : sProp 𝕄 := tbl.view.loc (c : Thread nD τ) ↦[Finset.univ]{q} ix

/-- One row's copy as the kernel writes it: from the token's row of the table, into block `r`, on cell `r / 100`. -/
theorem copy_row (q : PosShare TreeShare) (f : S1x25600.Idx → Elt F .f32) (r : Fin 200) {o2 : Fin 1 → Nat} {o3 o4 : Fin 2 → Nat}
    {h2 : ∀ a, o2 a + S1.size a ≤ S2.size a} {h3 : ∀ a, o3 a + S1x128.size a ≤ S1x25600.size a}
    {h4 : ∀ a, o4 a + S1x128.size a ≤ S100000x128.size a}
    (e2 : o2 = ![r.val / 100]) (e3 : o3 = ![0, 128 * r.val]) (e4 : o4 = ![(word ix r).toNat, 0]) {hs hd ht}
    (Q : PUnit → sProp 𝕄) (hQ : iprop(tblHeld c ix q ∗ started c ix hix T f (r.val + 1)) ⊢ Q ⟨⟩) :
    iprop(tblHeld c ix q ∗ started c ix hix T f r.val) ⊢ wp frame (wpE defs₀ Variants.none (c : Thread nD τ) none) Set.univ
      (Prog.lift (.enqueueDma (emb.slice (Rect.unit (s := S100000x128) o4 S1x128.size h4) (fun _ => rfl))
        (.here (erow.slice (Rect.unit (s := S1x25600) o3 S1x128.size h3) (fun _ => rfl)))
        (.dma ((cc0_scratch2.slice (Rect.unit (s := S2) o2 S1.size h2)).squeeze S_ squeezes_S1_S_).sem) hs hd ht)) Q := by
  have hr := r.isLt
  obtain ⟨b, t, rfl⟩ : ∃ (b : Fin 2) (t : Fin 100), r = rowOf b t :=
    ⟨⟨r.val / 100, by omega⟩, ⟨r.val % 100, by omega⟩, Fin.ext (show r.val = 100 * (r.val / 100) + r.val % 100 by omega)⟩
  have hb : (rowOf b t).val / 100 = b.val := by
    have := t.isLt
    show (100 * b.val + t.val) / 100 = b.val
    omega
  have ec := cell_at b (e2.trans (by rw [hb])) (h := h2)
  subst e3 e4
  refine .trans ?_ (copy_batch c ix hix T f b t _ ec Q)
  iintro ⟨HT, HS⟩
  have hopen : started c ix hix T f (rowOf b t).val ⊢ iprop((batch c ix hix T b t.val 0 ∗ holdE c (rowOf b t) f ∗ holdM c ix hix T (rowOf b t))
      ∗ (batch c ix hix T b (t.val + 1) 0 -∗ started c ix hix T f ((rowOf b t).val + 1))) := started_open c ix hix T f b t
  ihave H := hopen $$ HS
  icases H with ⟨HA, HW⟩
  isplitl [HA]; · iexact HA
  iintro HB
  iapply hQ
  isplitl [HT]; · iexact HT
  iapply HW
  iexact HB

/-- The word at token `r`, however its place is given. -/
theorem read_at (r : Fin 200) (h : ∀ a, (![r.val] : Fin 1 → Nat) a + S1.size a ≤ S200.size a)
    (x : (Rect.unit (s := S200) ![r.val] S1.size h).shape.Idx) :
    (tbl.access (Rect.unit (s := S200) ![r.val] S1.size h)).read (Elt F) ix x = word ix r := by
  show ix _ = ix _
  congr 1
  funext a
  match a with
  | ⟨0, _⟩ =>
    have hx : (x 0).val < 1 := (x 0).isLt
    exact Fin.ext (show r.val + 1 * (x 0).val = r.val by omega)

/-- Reading token `r`: the word comes, the table stays. -/
theorem read_word (q : PosShare TreeShare) (r : Fin 200) {o : Fin 1 → Nat} {h : ∀ a, o a + S1.size a ≤ S200.size a} (e : o = ![r.val]) {hn hp}
    (Q : Elt F .i32 → sProp 𝕄) (R : sProp 𝕄) (hQ : iprop(tblHeld c ix q ∗ R) ⊢ Q (word ix r)) :
    iprop(tblHeld c ix q ∗ R) ⊢ wp frame (wpE defs₀ Variants.none (c : Thread nD τ) none) Set.univ
      (smemLoad tbl (Rect.unit (s := S200) o S1.size h) hn hp) Q := by
  subst e
  iintro ⟨HT, HR⟩
  iapply (wp_smemLoadElt_named (m := tbl) (c := (c : Thread nD τ)) (S := Finset.univ) (q := q) (f := ix)) $$ [HT]
  · iexact HT
  iintro HT
  iintro %w %hw
  rw [wp_ret]
  imodintro
  obtain rfl : w = word ix r := hw.trans (read_at ix r h _)
  iapply hQ
  isplitl [HT]; · iexact HT
  iexact HR

/-- A check that holds passes. -/
theorem pass {P : Prop} {d : Decidable P} (h : P) (Q : PLift P → sProp 𝕄) (R : sProp 𝕄) (hQ : R ⊢ Q ⟨h⟩) :
    R ⊢ wp frame (wpE defs₀ Variants.none (c : Thread nD τ) none) Set.univ (Prog.lift (TpuEff.assume P d)) Q := by
  refine .trans ?_ (wp_assume Variants.none (c : Thread nD τ) none Set.univ h)
  rw [wp_ret]
  iintro HR
  imodintro
  iapply hQ
  iexact HR

end Held

end Cert.KernelIdeal.Hand

end
-- ==== Proof.IdealIssue.lean ====
/- The issue loop: one trip starts eight copies.

   Each of a trip's parts reads the words of its tokens, passes their range checks and starts their copies; the trip takes the copies
   below `8 t` started to those below `8 t + 8` started. -/
module

public import proofs.«01_k».proof.Proof.IdealRows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Where trip `t` reads and writes -/

/-- Token `j` of trip `t`. -/
def tok (t : Fin k0_t1_loop.trips) (j : Fin 8) : Fin 200 :=
  ⟨8 * t.val + j.val, by have h := t.isLt; have e : k0_t1_loop.trips = 25 := by decide +kernel
                         have := j.isLt; omega⟩

theorem word_at : ∀ t : Fin k0_t1_loop.trips,
    k0_off1 t = ![(tok t 0).val] ∧ k0_off5 t = ![(tok t 1).val] ∧ k0_off9 t = ![(tok t 2).val] ∧ k0_off13 t = ![(tok t 3).val]
      ∧ k0_off17 t = ![(tok t 4).val] ∧ k0_off21 t = ![(tok t 5).val] ∧ k0_off25 t = ![(tok t 6).val] ∧ k0_off29 t = ![(tok t 7).val] := by
  decide +kernel

theorem cell_of : ∀ t : Fin k0_t1_loop.trips,
    k0_off2 t = ![(tok t 0).val / 100] ∧ k0_off6 t = ![(tok t 1).val / 100] ∧ k0_off10 t = ![(tok t 2).val / 100] ∧ k0_off14 t = ![(tok t 3).val / 100]
      ∧ k0_off18 t = ![(tok t 4).val / 100] ∧ k0_off22 t = ![(tok t 5).val / 100] ∧ k0_off26 t = ![(tok t 6).val / 100] ∧ k0_off30 t = ![(tok t 7).val / 100] := by
  decide +kernel

theorem block_at : ∀ t : Fin k0_t1_loop.trips,
    k0_off3 t = ![0, 128 * (tok t 0).val] ∧ k0_off7 t = ![0, 128 * (tok t 1).val] ∧ k0_off11 t = ![0, 128 * (tok t 2).val] ∧ k0_off15 t = ![0, 128 * (tok t 3).val]
      ∧ k0_off19 t = ![0, 128 * (tok t 4).val] ∧ k0_off23 t = ![0, 128 * (tok t 5).val] ∧ k0_off27 t = ![0, 128 * (tok t 6).val] ∧ k0_off31 t = ![0, 128 * (tok t 7).val] := by
  decide +kernel

/-! ## One step of a part, with what follows it -/

section Steps

variable (c : Dev nD) (ix : S200.Idx → BitVec 32) (hix : InRange ix) (T : S100000x128.Idx → Elt F .f32)
variable (q : PosShare TreeShare) (f : S1x25600.Idx → Elt F .f32)

/-- The table held, and the copies below `r` started. -/
def issuing (r : ℕ) : sProp 𝕄 := iprop(tblHeld c ix q ∗ started c ix hix T f r)

theorem read_then {β : Type} (r : Fin 200) (n : ℕ) {o : Fin 1 → Nat} {h : ∀ a, o a + S1.size a ≤ S200.size a} (e : o = ![r.val]) {hn hp}
    {k : Elt F .i32 → Prog (TpuEff nD τ sig (Elt F) Λ₀ .tc) β} {Q : β → sProp 𝕄}
    (hk : issuing c ix hix T q f n ⊢ wp frame (wpE defs₀ Variants.none (c : Thread nD τ) none) Set.univ (k (word ix r)) Q) :
    issuing c ix hix T q f n ⊢ wp frame (wpE defs₀ Variants.none (c : Thread nD τ) none) Set.univ
      (smemLoad tbl (Rect.unit (s := S200) o S1.size h) hn hp >>= k) Q := by
  rw [wp_bind]
  exact read_word c ix q r e _ _ hk

theorem pass_then {β : Type} {P : Prop} {d : Decidable P} (h : P) (n : ℕ)
    {k : PLift P → Prog (TpuEff nD τ sig (Elt F) Λ₀ .tc) β} {Q : β → sProp 𝕄}
    (hk : issuing c ix hix T q f n ⊢ wp frame (wpE defs₀ Variants.none (c : Thread nD τ) none) Set.univ (k ⟨h⟩) Q) :
    issuing c ix hix T q f n ⊢ wp frame (wpE defs₀ Variants.none (c : Thread nD τ) none) Set.univ
      (Prog.lift (TpuEff.assume P d) >>= k) Q := by
  rw [wp_bind]
  exact pass c h _ _ hk

theorem copy_then {β : Type} (r : Fin 200) {o2 : Fin 1 → Nat} {o3 o4 : Fin 2 → Nat}
    {h2 : ∀ a, o2 a + S1.size a ≤ S2.size a} {h3 : ∀ a, o3 a + S1x128.size a ≤ S1x25600.size a}
    {h4 : ∀ a, o4 a + S1x128.size a ≤ S100000x128.size a}
    (e2 : o2 = ![r.val / 100]) (e3 : o3 = ![0, 128 * r.val]) (e4 : o4 = ![(word ix r).toNat, 0]) {hs hd ht}
    {k : PUnit → Prog (TpuEff nD τ sig (Elt F) Λ₀ .tc) β} {Q : β → sProp 𝕄}
    (hk : issuing c ix hix T q f (r.val + 1) ⊢ wp frame (wpE defs₀ Variants.none (c : Thread nD τ) none) Set.univ (k ⟨⟩) Q) :
    issuing c ix hix T q f r.val ⊢ wp frame (wpE defs₀ Variants.none (c : Thread nD τ) none) Set.univ
      (Prog.lift (.enqueueDma (emb.slice (Rect.unit (s := S100000x128) o4 S1x128.size h4) (fun _ => rfl))
        (.here (erow.slice (Rect.unit (s := S1x25600) o3 S1x128.size h3) (fun _ => rfl)))
        (.dma ((cc0_scratch2.slice (Rect.unit (s := S2) o2 S1.size h2)).squeeze S_ squeezes_S1_S_).sem) hs hd ht) >>= k) Q := by
  rw [wp_bind]
  exact copy_row c ix hix T q f r e2 e3 e4 _ hk

theorem done_then {β : Type} (n : ℕ) (b : β) {Q : β → sProp 𝕄} (hk : issuing c ix hix T q f n ⊢ Q b) :
    issuing c ix hix T q f n ⊢ wp frame (wpE defs₀ Variants.none (c : Thread nD τ) none) Set.univ (pure b : Prog (TpuEff nD τ sig (Elt F) Λ₀ .tc) β) Q := by
  refine .trans ?_ (Entails.of_eq (wp_ret ..).symm)
  iintro HR
  imodintro
  iapply hk
  iexact HR

/-! ## The parts of a trip -/

variable (i : grid0.Coords) (harg1 : tbl.IsWhole) (harg2 : emb.IsWhole) (arg3 : Memref sig .tc .vmem S12800x128 .f32) (harg3 : arg3.IsWhole)
  (arg4 : Memref sig .tc .vmem S1x128 .f32) (harg4 : arg4.IsWhole) (arg5 : Memref sig .tc .vmem S16384x128 .f32) (harg5 : arg5.IsWhole)
  (arg6 : Memref sig .tc .vmem S16384 .f32) (harg6 : arg6.IsWhole) (arg7 : Memref sig .tc .vmem S1x16384 .f32) (harg7 : arg7.IsWhole)
  (harg8 : erow.IsWhole) (arg9 : Memref sig .tc .vmem S1x128 .f32) (harg9 : arg9.IsWhole) (k0_h1 : k0_cond1 i = 1#1)
  (t : Fin k0_t1_loop.trips)

/-- Part 1 starts copy 0 of the trip. -/
theorem part1_issues {Q : _ → sProp 𝕄} (hQ : ∀ x, issuing c ix hix T q f (8 * t.val + 1) ⊢ Q x) :
    issuing c ix hix T q f (8 * t.val) ⊢ wp frame (wpE defs₀ Variants.none (c : Thread nD τ) none) Set.univ
      (k0_part1 i tbl harg1 emb harg2 arg3 harg3 arg4 harg4 arg5 harg5 arg6 harg6 arg7 harg7 erow harg8 arg9 harg9 cc0_scratch2 k0_h1 0#32 1#32 t) Q := by
  rw [k0_part1_eq_skeleton]
  unfold k0_part1_skel
  refine read_then c ix hix T q f (tok t 0) _ (word_at t).1 ?_
  refine pass_then c ix hix T q f (fun _ => mBlk_inb _ (hix (tok t 0))) _ ?_
  refine copy_then c ix hix T q f (tok t 0) (cell_of t).1 (block_at t).1 rfl ?_
  exact done_then c ix hix T q f _ _ (hQ _)

/-- Part 2 starts copy 1 and reads the word of token 2. -/
theorem part2_issues {a11 a41 a100 a42 a47 a49 a51} {Q : _ → sProp 𝕄} (hQ : ∀ h, issuing c ix hix T q f (8 * t.val + 2) ⊢ Q ⟨word ix (tok t 2), h⟩) :
    issuing c ix hix T q f (8 * t.val + 1) ⊢ wp frame (wpE defs₀ Variants.none (c : Thread nD τ) none) Set.univ
      (k0_part2 i tbl harg1 emb harg2 arg3 harg3 arg4 harg4 arg5 harg5 arg6 harg6 arg7 harg7 erow harg8 arg9 harg9 cc0_scratch2 k0_h1 t a11 a41 a100 a42 a47 a49 a51) Q := by
  rw [k0_part2_eq_skeleton]
  unfold k0_part2_skel
  refine read_then c ix hix T q f (tok t 1) _ (word_at t).2.1 ?_
  refine pass_then c ix hix T q f (fun _ => mBlk_inb _ (hix (tok t 1))) _ ?_
  refine copy_then c ix hix T q f (tok t 1) (cell_of t).2.1 (block_at t).2.1 rfl ?_
  refine read_then c ix hix T q f (tok t 2) _ (word_at t).2.2.1 ?_
  refine pass_then c ix hix T q f (fun _ => mBlk_inb _ (hix (tok t 2))) _ ?_
  exact done_then c ix hix T q f _ _ (hQ _)

/-- Part 3 starts copies 2 and 3. -/
theorem part3_issues {a11} (hw : k0_chk3 i (word ix (tok t 2))) {Q : _ → sProp 𝕄} (hQ : ∀ x, issuing c ix hix T q f (8 * t.val + 4) ⊢ Q x) :
    issuing c ix hix T q f (8 * t.val + 2) ⊢ wp frame (wpE defs₀ Variants.none (c : Thread nD τ) none) Set.univ
      (k0_part3 i tbl harg1 emb harg2 arg3 harg3 arg4 harg4 arg5 harg5 arg6 harg6 arg7 harg7 erow harg8 arg9 harg9 cc0_scratch2 k0_h1 t a11 (word ix (tok t 2)) hw) Q := by
  rw [k0_part3_eq_skeleton]
  unfold k0_part3_skel
  refine copy_then c ix hix T q f (tok t 2) (cell_of t).2.2.1 (block_at t).2.2.1 rfl ?_
  refine read_then c ix hix T q f (tok t 3) _ (word_at t).2.2.2.1 ?_
  refine pass_then c ix hix T q f (fun _ => mBlk_inb _ (hix (tok t 3))) _ ?_
  refine copy_then c ix hix T q f (tok t 3) (cell_of t).2.2.2.1 (block_at t).2.2.2.1 rfl ?_
  exact done_then c ix hix T q f _ _ (hQ _)

/-- Part 4 starts copy 4 and reads the word of token 5. -/
theorem part4_issues {a11 a41 a100 a42 a47 a49 a51} {Q : _ → sProp 𝕄} (hQ : ∀ h, issuing c ix hix T q f (8 * t.val + 5) ⊢ Q ⟨word ix (tok t 5), h⟩) :
    issuing c ix hix T q f (8 * t.val + 4) ⊢ wp frame (wpE defs₀ Variants.none (c : Thread nD τ) none) Set.univ
      (k0_part4 i tbl harg1 emb harg2 arg3 harg3 arg4 harg4 arg5 harg5 arg6 harg6 arg7 harg7 erow harg8 arg9 harg9 cc0_scratch2 k0_h1 t a11 a41 a100 a42 a47 a49 a51) Q := by
  rw [k0_part4_eq_skeleton]
  unfold k0_part4_skel
  refine read_then c ix hix T q f (tok t 4) _ (word_at t).2.2.2.2.1 ?_
  refine pass_then c ix hix T q f (fun _ => mBlk_inb _ (hix (tok t 4))) _ ?_
  refine copy_then c ix hix T q f (tok t 4) (cell_of t).2.2.2.2.1 (block_at t).2.2.2.2.1 rfl ?_
  refine read_then c ix hix T q f (tok t 5) _ (word_at t).2.2.2.2.2.1 ?_
  refine pass_then c ix hix T q f (fun _ => mBlk_inb _ (hix (tok t 5))) _ ?_
  exact done_then c ix hix T q f _ _ (hQ _)

/-- Part 5 starts copies 5 and 6. -/
theorem part5_issues {a11} (hw : k0_chk6 i (word ix (tok t 5))) {Q : _ → sProp 𝕄} (hQ : ∀ x, issuing c ix hix T q f (8 * t.val + 7) ⊢ Q x) :
    issuing c ix hix T q f (8 * t.val + 5) ⊢ wp frame (wpE defs₀ Variants.none (c : Thread nD τ) none) Set.univ
      (k0_part5 i tbl harg1 emb harg2 arg3 harg3 arg4 harg4 arg5 harg5 arg6 harg6 arg7 harg7 erow harg8 arg9 harg9 cc0_scratch2 k0_h1 t a11 (word ix (tok t 5)) hw) Q := by
  rw [k0_part5_eq_skeleton]
  unfold k0_part5_skel
  refine copy_then c ix hix T q f (tok t 5) (cell_of t).2.2.2.2.2.1 (block_at t).2.2.2.2.2.1 rfl ?_
  refine read_then c ix hix T q f (tok t 6) _ (word_at t).2.2.2.2.2.2.1 ?_
  refine pass_then c ix hix T q f (fun _ => mBlk_inb _ (hix (tok t 6))) _ ?_
  refine copy_then c ix hix T q f (tok t 6) (cell_of t).2.2.2.2.2.2.1 (block_at t).2.2.2.2.2.2.1 rfl ?_
  exact done_then c ix hix T q f _ _ (hQ _)

/-- A trip starts its eight copies. -/
theorem trip_issues (x : Unit) :
    issuing c ix hix T q f (8 * t.val) ⊢ wp frame (wpE defs₀ Variants.none (c : Thread nD τ) none) Set.univ
      (k0_t1_body i tbl harg1 emb harg2 arg3 harg3 arg4 harg4 arg5 harg5 arg6 harg6 arg7 harg7 erow harg8 arg9 harg9 cc0_scratch2 k0_h1 t x) (fun _ => issuing c ix hix T q f (8 * (t.val + 1))) := by
  unfold k0_t1_body
  rw [wp_bind]
  refine part1_issues c ix hix T q f i harg1 harg2 arg3 harg3 arg4 harg4 arg5 harg5 arg6 harg6 arg7 harg7 harg8 arg9 harg9 k0_h1 t fun x => ?_
  rw [wp_bind]
  refine part2_issues c ix hix T q f i harg1 harg2 arg3 harg3 arg4 harg4 arg5 harg5 arg6 harg6 arg7 harg7 harg8 arg9 harg9 k0_h1 t fun h3 => ?_
  rw [wp_bind]
  refine part3_issues c ix hix T q f i harg1 harg2 arg3 harg3 arg4 harg4 arg5 harg5 arg6 harg6 arg7 harg7 harg8 arg9 harg9 k0_h1 t _ fun x => ?_
  rw [wp_bind]
  refine part4_issues c ix hix T q f i harg1 harg2 arg3 harg3 arg4 harg4 arg5 harg5 arg6 harg6 arg7 harg7 harg8 arg9 harg9 k0_h1 t fun h6 => ?_
  rw [wp_bind]
  refine part5_issues c ix hix T q f i harg1 harg2 arg3 harg3 arg4 harg4 arg5 harg5 arg6 harg6 arg7 harg7 harg8 arg9 harg9 k0_h1 t _ fun x => ?_
  refine read_then c ix hix T q f (tok t 7) _ (word_at t).2.2.2.2.2.2.2 ?_
  refine pass_then c ix hix T q f (fun _ => mBlk_inb _ (hix (tok t 7))) _ ?_
  refine copy_then c ix hix T q f (tok t 7) (cell_of t).2.2.2.2.2.2.2 (block_at t).2.2.2.2.2.2.2 rfl ?_
  exact done_then c ix hix T q f _ _ .rfl

end Steps

end Cert.KernelIdeal.Hand

end
-- ==== Proof.IdealDrain.lean ====
/- The drain loop: a hundred waits on one cell.

   At grid point `b` (0 or 1) the kernel waits for the hundred copies of cell `b`. The trips before the last only count what has landed;
   the last wait hands every delivery over at once: the hundred blocks gathered, and the shares of the table's rows. -/
module

public import proofs.«01_k».proof.Proof.IdealIssue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Where the waits read -/

/-- Grid point `b` of the first two. -/
def pt (b : Fin 2) : grid0.Coords := grid0.coords ⟨b.val, by have := b.isLt; have h : grid0.N = 9 := (by decide); omega⟩

theorem drain_trips : ∀ b : Fin 2, (k0_t2_loop (pt b)).trips = 100 := by decide +kernel

theorem rest_trips : ∀ b : Fin 2, (k0_t3_loop (pt b)).trips = 0 := by decide +kernel

theorem wait_cell : ∀ b : Fin 2, k0_off34 (pt b) = ![b.val] := by decide +kernel

/-- The row that trip `k` of the drain loop waits for. -/
def waited (b : Fin 2) (k : Fin (k0_t2_loop (pt b)).trips) : Fin 200 := ⟨100 * b.val + k.val, by
  have := k.isLt; have := drain_trips b; omega⟩

theorem wait_word : ∀ (b : Fin 2) (k : Fin (k0_t2_loop (pt b)).trips), k0_off33 (pt b) k = ![(waited b k).val] := by decide +kernel

theorem wait_block : ∀ (b : Fin 2) (k : Fin (k0_t2_loop (pt b)).trips), k0_off35 (pt b) k = ![0, 128 * (waited b k).val] := by decide +kernel

theorem credit_pos : 0 < credit := by decide +kernel

/-! ## One trip -/

section Drain

variable (c : Dev nD) (ix : S200.Idx → BitVec 32) (hix : InRange ix) (T : S100000x128.Idx → Elt F .f32) (q : PosShare TreeShare)

/-- The cell counted out again, and everything its copies delivered. -/
def drained (b : Fin 2) : sProp 𝕄 :=
  iprop(semVal ((c : Thread nD τ), SemLoc.dma (cell b)) 0 ∗ bigSep Finset.univ (fun t => delivers c ix hix T (rowOf b t)))

/-- Before trip `k` of the drain loop of cell `b`: `k` copies waited for, or after the last everything delivered. -/
def draining (b : Fin 2) (k : ℕ) (_ : Unit) : sProp 𝕄 :=
  iprop(tblHeld c ix q ∗ (∃ W, owes (c : Thread nD τ) 0 W) ∗ (if k < 100 then batch c ix hix T b 100 (k * credit) else drained c ix hix T b))

/-- One wait on cell `b` with `k` copies waited for before it. -/
theorem wait_row (b : Fin 2) (k : ℕ) (hk : k < 100) {v : Memref sig .tc .hbm S1x128 .f32} {o2 : Fin 1 → Nat} {o3 : Fin 2 → Nat} (r : Fin 200)
    {h2 : ∀ a, o2 a + S1.size a ≤ S2.size a} {h3 : ∀ a, o3 a + S1x128.size a ≤ S1x25600.size a}
    (e2 : o2 = ![b.val]) (e3 : o3 = ![0, 128 * r.val]) {hs hd}
    {kk : PUnit → Prog (TpuEff nD τ sig (Elt F) Λ₀ .tc) Unit} {Q : Unit → sProp 𝕄}
    (hkk : draining c ix hix T q b (k + 1) ⟨⟩ ⊢ wp frame (wpE defs₀ Variants.none (c : Thread nD τ) none) Set.univ (kk ⟨⟩) Q) :
    draining c ix hix T q b k ⟨⟩ ⊢ wp frame (wpE defs₀ Variants.none (c : Thread nD τ) none) Set.univ
      (Prog.lift (.waitDma2 ((cc0_scratch2.slice (Rect.unit (s := S2) o2 S1.size h2)).squeeze S_ squeezes_S1_S_).sem v
        (erow.slice (Rect.unit (s := S1x25600) o3 S1x128.size h3) (fun _ => rfl)) hs hd) >>= kk) Q := by
  rw [cell_at b e2 (h := h2)]
  subst e3
  have hN : (erow.slice (Rect.unit (s := S1x25600) ![0, 128 * r.val] S1x128.size h3) (fun _ => rfl)).view.dmaCredit = credit := rfl
  unfold draining at *
  rw [if_pos hk]
  rcases Nat.lt_or_ge (k + 1) 100 with h1 | h1
  · rw [if_pos h1] at hkk
    iintro ⟨HT, ⟨%W, HO⟩, HB⟩
    iapply (Transfers.wp_waitBatch (countersEmb (U := Pipeline.UD sig nD τ)) Variants.none (c : Thread nD τ) none () hN
      (u := k * credit) (D := fun t => delivers c ix hix T (rowOf b t)) (k := kk)
      (by rw [← Nat.succ_mul, Nat.mul_comm credit]; exact Nat.mul_lt_mul_of_pos_right h1 credit_pos)) $$ [HB HO]
    · isplitl [HB]; · iexact HB
      iexact HO
    iintro ⟨HB, HO⟩
    iapply hkk
    isplitl [HT]; · iexact HT
    isplitl [HO]; · iexists _; iexact HO
    rw [Nat.succ_mul]
    iexact HB
  · rw [if_neg (Nat.not_lt.mpr h1)] at hkk
    iintro ⟨HT, ⟨%W, HO⟩, HB⟩
    iapply (Transfers.wp_waitBatchLast (countersEmb (U := Pipeline.UD sig nD τ)) Variants.none (c : Thread nD τ) none () hN credit_pos
      (u := k * credit) (D := fun t => delivers c ix hix T (rowOf b t)) (k := kk)
      (by rw [← Nat.succ_mul, Nat.mul_comm credit, show k.succ = 100 by omega])) $$ [HB HO]
    · isplitl [HB]; · iexact HB
      iexact HO
    iintro ⟨HD, HS, HO⟩
    iapply hkk
    isplitl [HT]; · iexact HT
    isplitl [HO]; · iexists _; iexact HO
    unfold drained
    isplitl [HS]; · iexact HS
    iexact HD

variable (harg1 : tbl.IsWhole) (harg2 : emb.IsWhole) (arg3 : Memref sig .tc .vmem S12800x128 .f32) (harg3 : arg3.IsWhole)
  (arg4 : Memref sig .tc .vmem S1x128 .f32) (harg4 : arg4.IsWhole) (arg5 : Memref sig .tc .vmem S16384x128 .f32) (harg5 : arg5.IsWhole)
  (arg6 : Memref sig .tc .vmem S16384 .f32) (harg6 : arg6.IsWhole) (arg7 : Memref sig .tc .vmem S1x16384 .f32) (harg7 : arg7.IsWhole)
  (harg8 : erow.IsWhole) (arg9 : Memref sig .tc .vmem S1x128 .f32) (harg9 : arg9.IsWhole)

/-- A trip of the drain loop waits for one more copy. -/
theorem trip_drains (b : Fin 2) (k0_h2 : k0_cond2 (pt b) = 1#1) (k : Fin (k0_t2_loop (pt b)).trips) (x : Unit) :
    draining c ix hix T q b k.val x ⊢ wp frame (wpE defs₀ Variants.none (c : Thread nD τ) none) Set.univ
      (k0_t2_body (pt b) tbl harg1 emb harg2 arg3 harg3 arg4 harg4 arg5 harg5 arg6 harg6 arg7 harg7 erow harg8 arg9 harg9 cc0_scratch2 k0_h2 k x) (draining c ix hix T q b (k.val + 1)) := by
  have hk : k.val < 100 := by have := k.isLt; have := drain_trips b; omega
  unfold k0_t2_body
  rw [wp_bind]
  refine read_word c ix q (waited b k) (wait_word b k) _ _ ?_
  rw [wp_bind]
  refine pass c (fun _ => mBlk_inb _ (hix (waited b k))) _ _ ?_
  refine wait_row c ix hix T q b k.val hk (waited b k) (wait_cell b) (wait_block b k) ?_
  refine .trans ?_ (Entails.of_eq (wp_ret ..).symm)
  iintro H
  imodintro
  iexact H

/-- The drain loop, and what follows it. -/
theorem drain_loop (b : Fin 2) (k0_h2 : k0_cond2 (pt b) = 1#1) {β : Type} {kk : Unit → Prog (TpuEff nD τ sig (Elt F) Λ₀ .tc) β} {Q : β → sProp 𝕄} :
    iprop(tblHeld c ix q ∗ (∃ W, owes (c : Thread nD τ) 0 W) ∗ batch c ix hix T b 100 0)
      ⊢ iprop((iprop(tblHeld c ix q ∗ (∃ W, owes (c : Thread nD τ) 0 W) ∗ drained c ix hix T b)
          -∗ wp frame (wpE defs₀ Variants.none (c : Thread nD τ) none) Set.univ (kk ⟨⟩) Q)
        -∗ wp frame (wpE defs₀ Variants.none (c : Thread nD τ) none) Set.univ
            (Scf.Loop.for (k0_t2_loop (pt b)) (k0_t2_ok (pt b) k0_h2) ⟨⟩ (k0_t2_body (pt b) tbl harg1 emb harg2 arg3 harg3 arg4 harg4 arg5 harg5 arg6 harg6 arg7 harg7 erow harg8 arg9 harg9 cc0_scratch2 k0_h2) >>= kk) Q) := by
  have h0 : iprop(tblHeld c ix q ∗ (∃ W, owes (c : Thread nD τ) 0 W) ∗ batch c ix hix T b 100 0) ⊢ draining c ix hix T q b 0 ⟨⟩ := by
    unfold draining
    rw [if_pos (by decide : 0 < 100), Nat.zero_mul]
  refine h0.trans (.trans (Scf.wp_for_bind _ _ Set.univ _ _ _ (k0_t2_ok (pt b) k0_h2) ⟨⟩ _ (draining c ix hix T q b)
    (fun k x => trip_drains c ix hix T q harg1 harg2 arg3 harg3 arg4 harg4 arg5 harg5 arg6 harg6 arg7 harg7 harg8 arg9 harg9 b k0_h2 k x) (kk := kk) (Q := Q)) ?_)
  refine wand_mono ?_ .rfl
  iintro HK
  iintro %x HD
  have hx : draining c ix hix T q b (Scf.trips (k0_t2_loop (pt b)).lb (k0_t2_loop (pt b)).ub (k0_t2_loop (pt b)).st) x
      ⊢ iprop(tblHeld c ix q ∗ (∃ W, owes (c : Thread nD τ) 0 W) ∗ drained c ix hix T b) := by
    have e : Scf.trips (k0_t2_loop (pt b)).lb (k0_t2_loop (pt b)).ub (k0_t2_loop (pt b)).st = 100 := drain_trips b
    unfold draining
    rw [e, if_neg (by decide)]
  iapply HK
  iapply hx
  iexact HD

end Drain

end Cert.KernelIdeal.Hand

end
-- ==== Proof.IdealJoins.lean ====
/- The gathered row as its blocks and halves, and the embedding table as the two hundred shares the copies read under.

   A copy owns its block of the gathered row and a share of one row of the table. The blocks of one cell join to a half of the row, the
   two halves to the row; the shares, with what was kept back of each, join to the table whole. -/
module

public import proofs.«01_k».proof.Proof.IdealDrain

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Blocks, halves -/

theorem mem_eBlk (r : Fin 200) (y : S1x25600.Idx) : y ∈ (eBlk r).view.set ↔ (y 1).val / 128 = r.val := by
  have h : (eBlk r).view.set = (Rect.unit (s := S1x25600) ![0, 128 * r.val] S1x128.size (eBlk_inb r)).set := View.set_slice_whole _ _
  have h0 : (y 0).val < 1 := (y 0).isLt
  have key : (∀ a, (![0, 128 * r.val] : Fin 2 → Nat) a ≤ (y a).val ∧ (y a).val < (![0, 128 * r.val] : Fin 2 → Nat) a + S1x128.size a)
      ↔ (y 1).val / 128 = r.val := by
    constructor
    · intro hy
      have h1 : 128 * r.val ≤ (y 1).val ∧ (y 1).val < 128 * r.val + 128 := hy 1
      omega
    · intro hy a
      fin_cases a
      · show 0 ≤ (y 0).val ∧ (y 0).val < 0 + 1
        omega
      · show 128 * r.val ≤ (y 1).val ∧ (y 1).val < 128 * r.val + 128
        omega
  rw [h]
  exact Rect.mem_set_unit.trans key

theorem eBlk_disjoint (r r' : Fin 200) (h : r ≠ r') : Disjoint (eBlk r).view.set (eBlk r').view.set := by
  refine Finset.disjoint_left.mpr fun y hy hy' => h (Fin.ext ?_)
  exact ((mem_eBlk r y).mp hy).symm.trans ((mem_eBlk r' y).mp hy')

/-- The elements of block `r`. -/
def blockSet (r : Fin 200) : Finset S1x25600.Idx := (eBlk r).view.set

theorem eBlk_cover : Finset.univ.biUnion blockSet = Finset.univ := by
  refine Finset.eq_univ_iff_forall.mpr fun y => ?_
  exact Finset.mem_biUnion.mpr ⟨⟨(y 1).val / 128, col_lt y⟩, Finset.mem_univ _, (mem_eBlk _ y).mpr rfl⟩

/-- Half `b` of the gathered row: the blocks of cell `b`. -/
def half (b : Fin 2) : Finset S1x25600.Idx := Finset.univ.biUnion (fun t : Fin 100 => (eBlk (rowOf b t)).view.set)

theorem rowOf_ne (b : Fin 2) (t t' : Fin 100) (h : t ≠ t') : rowOf b t ≠ rowOf b t' := fun e =>
  h (Fin.ext (by have e' : 100 * b.val + t.val = 100 * b.val + t'.val := congrArg Fin.val e
                 omega))

theorem mem_half (b : Fin 2) (y : S1x25600.Idx) (h : (y 1).val / 12800 = b.val) : y ∈ half b := by
  refine Finset.mem_biUnion.mpr ⟨⟨(y 1).val / 128 % 100, Nat.mod_lt _ (by decide)⟩, Finset.mem_univ _, (mem_eBlk _ y).mpr ?_⟩
  show (y 1).val / 128 = 100 * b.val + (y 1).val / 128 % 100
  omega

/-- A family over the two hundred rows is the family over the first cell's and the family over the second's. -/
theorem rows_split (Φ : Fin 200 → sProp 𝕄) :
    bigSep Finset.univ Φ = iprop(bigSep Finset.univ (fun t => Φ (rowOf 0 t)) ∗ bigSep Finset.univ (fun t => Φ (rowOf 1 t))) := by
  have e : ∀ p : Fin 2 × Fin 100, (finProdFinEquiv p : Fin 200) = rowOf p.1 p.2 := fun p =>
    Fin.ext (by show p.2.val + 100 * p.1.val = 100 * p.1.val + p.2.val; omega)
  rw [bigSep_univ_equiv (finProdFinEquiv (m := 2) (n := 100)) Φ, bigSep_univ_prod, bigSep_univ_two]
  simp only [e]

/-- Two propositions that entail each other are equal. -/
theorem eq_of_bi {P Q : sProp 𝕄} (h : P ⊣⊢ Q) : P = Q := equiv_iff.mp ⟨h.1, h.2⟩

section Join

variable (c : Dev nD) (ix : S200.Idx → BitVec 32) (hix : InRange ix) (T : S100000x128.Idx → Elt F .f32)

/-- The gathered row held whole. -/
abbrev eHeld (f : S1x25600.Idx → Elt F .f32) : sProp 𝕄 := erow.view.loc (c : Thread nD τ) ↦[Finset.univ]{fullShare} f

/-- Half `b` of it held. -/
abbrev eHalf (b : Fin 2) (f : S1x25600.Idx → Elt F .f32) : sProp 𝕄 := erow.view.loc (c : Thread nD τ) ↦[half b]{fullShare} f

theorem e_blocks (f : S1x25600.Idx → Elt F .f32) : eHeld c f = bigSep Finset.univ (fun r => holdE c r f) :=
  Ring.pointsTo_blocks (ℓ := erow.view.loc (c : Thread nD τ)) blockSet eBlk_disjoint eBlk_cover f

theorem half_blocks (b : Fin 2) (f : S1x25600.Idx → Elt F .f32) :
    eHalf c b f = bigSep Finset.univ (fun t => holdE c (rowOf b t) f) :=
  Ring.pointsTo_sub_blocks (ℓ := erow.view.loc (c : Thread nD τ)) (fun t : Fin 100 => (eBlk (rowOf b t)).view.set)
    (fun t t' h => eBlk_disjoint _ _ (rowOf_ne b t t' h)) (half b) rfl f

theorem e_halves (f : S1x25600.Idx → Elt F .f32) : eHeld c f = iprop(eHalf c 0 f ∗ eHalf c 1 f) := by
  rw [e_blocks, rows_split, half_blocks, half_blocks]

/-! ## The embedding table -/

/-- The embedding table held whole. -/
abbrev embHeld : sProp 𝕄 := emb.view.loc (c : Thread nD τ) ↦[Finset.univ]{fullShare} T

/-- What is kept back of the embedding table while the copies hold their shares of its rows. -/
def embRest : sProp 𝕄 :=
  iprop((emb.view.loc (c : Thread nD τ) ↦[Finset.univ]{Transfers.shareDrop fullShare 200} T)
    ∗ bigSep Finset.univ (fun r : Fin 200 =>
        emb.view.loc (c : Thread nD τ) ↦[Finset.univ \ (mBlk (word ix r).toNat (hix r)).view.set]{Transfers.shareTokN fullShare r.val} T))

theorem emb_split : embHeld c T = iprop(embRest c ix hix T ∗ bigSep Finset.univ (fun r => holdM c ix hix T r)) := by
  have h1 : embHeld c T = iprop((emb.view.loc (c : Thread nD τ) ↦[Finset.univ]{Transfers.shareDrop fullShare 200} T)
      ∗ bigSep (Finset.range 200) (fun k => emb.view.loc (c : Thread nD τ) ↦[Finset.univ]{Transfers.shareTokN fullShare k} T)) :=
    eq_of_bi (Transfers.pointsTo_toks_range fullShare 200)
  have h2 : bigSep (Finset.range 200) (fun k => emb.view.loc (c : Thread nD τ) ↦[Finset.univ]{Transfers.shareTokN fullShare k} T)
      = (bigSep Finset.univ (fun r : Fin 200 => emb.view.loc (c : Thread nD τ) ↦[Finset.univ]{Transfers.shareTokN fullShare r.val} T) : sProp 𝕄) := by
    rw [← Ring.rangeSet_univ]
    exact (Ring.bigSep_rangeSet_eq_range (NB := 200) (lo := 0) (hi := 200) le_rfl _ (fun k hk => by
      show _ = emb.view.loc (c : Thread nD τ) ↦[Finset.univ]{Transfers.shareTokN fullShare (0 + k)} T
      rw [Nat.zero_add])).symm
  have h3 : ∀ r : Fin 200, (emb.view.loc (c : Thread nD τ) ↦[Finset.univ]{Transfers.shareTokN fullShare r.val} T : sProp 𝕄)
      = iprop((emb.view.loc (c : Thread nD τ) ↦[Finset.univ \ (mBlk (word ix r).toNat (hix r)).view.set]{Transfers.shareTokN fullShare r.val} T)
        ∗ holdM c ix hix T r) := fun r =>
    (eq_of_bi (pointsTo_split_subset (Finset.subset_univ _))).trans (eq_of_bi ⟨sep_comm.1, sep_comm.2⟩)
  rw [h1, h2, bigSep_congr (fun r _ => h3 r), bigSep_sep']
  unfold embRest
  exact (eq_of_bi sep_assoc).symm

/-! ## What the drained cells hand back -/

theorem delivered (b : Fin 2) : (bigSep Finset.univ (fun t => delivers c ix hix T (rowOf b t)) : sProp 𝕄)
    = iprop(eHalf c b (gathered ix hix T) ∗ bigSep Finset.univ (fun t => holdM c ix hix T (rowOf b t))) := by
  rw [half_blocks]
  unfold delivers
  rw [bigSep_sep']

/-- Before the issue loop: from the row, the table's shares and the two cells at zero, no copy started. -/
theorem start (f : S1x25600.Idx → Elt F .f32) :
    iprop(semVal ((c : Thread nD τ), SemLoc.dma (cell 0)) 0 ∗ semVal ((c : Thread nD τ), SemLoc.dma (cell 1)) 0 ∗ eHeld c f
        ∗ bigSep Finset.univ (fun r => holdM c ix hix T r))
      ⊢ |={Set.univ}=> started c ix hix T f 0 := by
  rw [e_blocks]
  iintro ⟨H0, H1, HE, HM⟩
  imod (Transfers.batch_alloc' (Lvl := ℕ) (countersEmb (U := Pipeline.UD sig nD τ)) (c : Thread nD τ) () credit (fun t => delivers c ix hix T (rowOf 0 t)) (sm := .dma (cell 0)) (E := Set.univ)) $$ H0 with HB0
  imod (Transfers.batch_alloc' (Lvl := ℕ) (countersEmb (U := Pipeline.UD sig nD τ)) (c : Thread nD τ) () credit (fun t => delivers c ix hix T (rowOf 1 t)) (sm := .dma (cell 1)) (E := Set.univ)) $$ H1 with HB1
  imodintro
  rw [started_fst c ix hix T f 0 (by decide), Ring.rangeSet_univ]
  isplitl [HB0]; · iexact HB0
  isplitl [HB1]; · iexact HB1
  isplitl [HE]; · iexact HE
  iexact HM

/-- After the issue loop: both cells' copies all started. -/
theorem all_started (f : S1x25600.Idx → Elt F .f32) :
    started c ix hix T f 200 ⊢ iprop(batch c ix hix T 0 100 0 ∗ batch c ix hix T 1 100 0) := by
  rw [started_snd c ix hix T f 200 (by decide), Ring.bigSep_rangeSet_empty le_rfl, Ring.bigSep_rangeSet_empty le_rfl]
  iintro ⟨H0, H1, -, -⟩
  isplitl [H0]; · iexact H0
  iexact H1

end Join

end Cert.KernelIdeal.Hand

end
-- ==== Proof.IdealAccess.lean ====
/- Reading and writing whole blocks, and half of the gathered row.

   Every access of the kernel body besides its copies is of a whole staging block, of the whole accumulator, or of one of the two halves of
   the gathered row. -/
module

public import proofs.«01_k».proof.Proof.IdealJoins

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

theorem zero2 : (![0, 0] : Fin 2 → Nat) = fun _ => 0 := by decide

theorem zero1 : (![0] : Fin 1 → Nat) = fun _ => 0 := by decide

/-- Loading a whole block reads what it holds. -/
theorem load_full {s : Shape} {e : EltTy} (m : Memref sig .tc .vmem s e) {off : Fin s.rank → Nat} (h0 : off = fun _ => 0)
    {inb : ∀ a, off a + s.size a ≤ s.size a} {hl} (q : PosShare TreeShare) (X : s.Idx → Elt F e) {β : Type}
    {k : (s.Idx → Elt F e) → Prog (TpuEff nD τ sig (Elt F) Λ₀ .tc) β} {Q : β → sProp 𝕄} :
    (owns (c : Thread nD τ) m q X : sProp 𝕄)
      ⊢ iprop((owns (c : Thread nD τ) m q X -∗ wp frame (wpE defs₀ Variants.none (c : Thread nD τ) none) Set.univ (k X) Q)
        -∗ wp frame (wpE defs₀ Variants.none (c : Thread nD τ) none) Set.univ
          (Prog.lift (.load m (Rect.unit (s := s) off s.size inb).toLoadRect hl) >>= k) Q) := by
  subst h0
  unfold owns
  iintro ⟨%f, %hf, H⟩ HK
  subst hf
  have hS : (m.access (Rect.whole s)).set ⊆ m.view.set := by
    intro y hy
    obtain ⟨x, -, rfl⟩ := Finset.mem_map.mp hy
    exact Finset.mem_map_of_mem m.view.emb (Finset.mem_univ ((Rect.whole s).emb x))
  have hr : (m.access (Rect.whole s)).read (Elt F) f = m.view.read (Elt F) f := by
    funext x
    show m.view.read (Elt F) f ((Rect.whole s).emb x) = _
    rw [Rect.emb_whole_apply]
  iapply (wp_load_rect Variants.none (c : Thread nD τ) none Set.univ (m := m) (r := Rect.whole s) (k := k) hS) $$ H
  iintro H
  rw [hr]
  iapply HK
  iexists f
  isplitr
  · ipureintro; rfl
  iexact H

/-- Storing a whole block leaves what is stored. -/
theorem store_full {s : Shape} {e : EltTy} (m : Memref sig .tc .vmem s e) {off : Fin s.rank → Nat} (h0 : off = fun _ => 0)
    {inb : ∀ a, off a + s.size a ≤ s.size a} {hx hm} (X w : s.Idx → Elt F e) {β : Type}
    {k : PUnit → Prog (TpuEff nD τ sig (Elt F) Λ₀ .tc) β} {Q : β → sProp 𝕄} :
    (owns (c : Thread nD τ) m fullShare X : sProp 𝕄)
      ⊢ iprop((owns (c : Thread nD τ) m fullShare w -∗ wp frame (wpE defs₀ Variants.none (c : Thread nD τ) none) Set.univ (k ⟨⟩) Q)
        -∗ wp frame (wpE defs₀ Variants.none (c : Thread nD τ) none) Set.univ
          (Prog.lift (.store m (Rect.unit (s := s) off s.size inb) w Finset.univ hx hm) >>= k) Q) := by
  subst h0
  unfold owns
  iintro ⟨%f, %hf, H⟩ HK
  have hS : (m.access (Rect.whole s)).setOn Finset.univ ⊆ m.view.set := by
    intro y hy
    obtain ⟨x, -, rfl⟩ := Finset.mem_map.mp hy
    exact Finset.mem_map_of_mem m.view.emb (Finset.mem_univ ((Rect.whole s).emb x))
  have hr : m.view.read (Elt F) ((m.access (Rect.whole s)).write (Elt F) f w Finset.univ) = w := by
    funext x
    have h := View.read_slice_write_emb (v := m.view) (Rect.whole s) f w (M := Finset.univ) (x := x) (Finset.mem_univ x)
    rw [Rect.emb_whole_apply] at h
    exact h
  iapply (wp_store Variants.none (c : Thread nD τ) none Set.univ (m := m) (r := Rect.whole s) (k := k) (w := w) hS) $$ H
  iintro H
  iapply HK
  iexists _
  isplitr
  · ipureintro; exact hr
  iexact H

/-! ## Half of the gathered row -/

/-- Element `x` of half `b`, as an element of the row. -/
def inHalf (b : Fin 2) (x : S1x12800.Idx) : S1x25600.Idx
  | 0 => (0 : Fin 1)
  | 1 => (⟨12800 * b.val + (x 1).val, by have h : (x 1).val < 12800 := (x 1).isLt; have := b.isLt; omega⟩ : Fin 25600)

/-- Half `b` of a row. -/
def halfOf (b : Fin 2) (g : S1x25600.Idx → Elt F .f32) : S1x12800.Idx → Elt F .f32 := fun x => g (inHalf b x)

theorem half_at : ∀ b : Fin 2, k0_off41 (pt b) = ![0, 12800 * b.val] := by decide +kernel

theorem half_read (b : Fin 2) {h : ∀ a, (![0, 12800 * b.val] : Fin 2 → Nat) a + S1x12800.size a ≤ S1x25600.size a} (g : S1x25600.Idx → Elt F .f32) :
    (erow.access (Rect.unit (s := S1x25600) ![0, 12800 * b.val] S1x12800.size h)).read (Elt F) g = halfOf b g := by
  funext x
  show g _ = g _
  congr 1
  funext a
  apply Fin.ext
  match a with
  | 0 => show 0 + 1 * (x 0).val = 0; have h : (x 0).val < 1 := (x 0).isLt; omega
  | 1 => show 12800 * b.val + 1 * (x 1).val = 12800 * b.val + (x 1).val; omega

theorem half_set (b : Fin 2) {h : ∀ a, (![0, 12800 * b.val] : Fin 2 → Nat) a + S1x12800.size a ≤ S1x25600.size a} :
    (erow.access (Rect.unit (s := S1x25600) ![0, 12800 * b.val] S1x12800.size h)).set ⊆ half b := by
  intro y hy
  obtain ⟨x, -, rfl⟩ := Finset.mem_map.mp hy
  apply mem_half
  show (12800 * b.val + 1 * (x 1).val) / 12800 = b.val
  have h : (x 1).val < 12800 := (x 1).isLt
  omega

/-- Loading a half of the row while only that half is held. -/
theorem load_half (b : Fin 2) {off : Fin 2 → Nat} (h0 : off = ![0, 12800 * b.val])
    {inb : ∀ a, off a + S1x12800.size a ≤ S1x25600.size a} {hl} (g : S1x25600.Idx → Elt F .f32) {β : Type}
    {k : (S1x12800.Idx → Elt F .f32) → Prog (TpuEff nD τ sig (Elt F) Λ₀ .tc) β} {Q : β → sProp 𝕄} :
    (eHalf c b g : sProp 𝕄)
      ⊢ iprop((eHalf c b g -∗ wp frame (wpE defs₀ Variants.none (c : Thread nD τ) none) Set.univ (k (halfOf b g)) Q)
        -∗ wp frame (wpE defs₀ Variants.none (c : Thread nD τ) none) Set.univ
          (Prog.lift (.load erow (Rect.unit (s := S1x25600) off S1x12800.size inb).toLoadRect hl) >>= k) Q) := by
  subst h0
  iintro H HK
  iapply (wp_load_rect Variants.none (c : Thread nD τ) none Set.univ (m := erow) (r := Rect.unit (s := S1x25600) ![0, 12800 * b.val] S1x12800.size inb) (k := k) (half_set b)) $$ H
  iintro H
  rw [half_read]
  iapply HK
  iexact H

end Cert.KernelIdeal.Hand

end
-- ==== Proof.IdealBranches.lean ====
/- The three branches of the kernel body.

   The first point starts all two hundred copies after clearing the accumulator. The first two points each wait for one half of the row and
   add its product with a block of the first matrix to the accumulator. Every later point writes one block of the result. -/
module

public import proofs.«01_k».proof.Proof.IdealAccess

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Branches

variable (c : Dev nD) (ix : S200.Idx → BitVec 32) (hix : InRange ix) (T : S100000x128.Idx → Elt F .f32) (q : PosShare TreeShare)

variable (harg1 : tbl.IsWhole) (harg2 : emb.IsWhole) (arg3 : Memref sig .tc .vmem S12800x128 .f32) (harg3 : arg3.IsWhole)
  (arg4 : Memref sig .tc .vmem S1x128 .f32) (harg4 : arg4.IsWhole) (arg5 : Memref sig .tc .vmem S16384x128 .f32) (harg5 : arg5.IsWhole)
  (arg6 : Memref sig .tc .vmem S16384 .f32) (harg6 : arg6.IsWhole) (arg7 : Memref sig .tc .vmem S1x16384 .f32) (harg7 : arg7.IsWhole)
  (harg8 : erow.IsWhole) (arg9 : Memref sig .tc .vmem S1x128 .f32) (harg9 : arg9.IsWhole)

/-- The issue loop, and what follows it: from no copy started to all two hundred. -/
theorem issue_loop (f : S1x25600.Idx → Elt F .f32) (i : grid0.Coords) (k0_h1 : k0_cond1 i = 1#1) {β : Type} {kk : Unit → Prog (TpuEff nD τ sig (Elt F) Λ₀ .tc) β} {Q : β → sProp 𝕄} :
    issuing c ix hix T q f 0
      ⊢ iprop((issuing c ix hix T q f 200 -∗ wp frame (wpE defs₀ Variants.none (c : Thread nD τ) none) Set.univ (kk ⟨⟩) Q)
        -∗ wp frame (wpE defs₀ Variants.none (c : Thread nD τ) none) Set.univ
            (Scf.Loop.for k0_t1_loop (k0_t1_ok i k0_h1) ⟨⟩ (k0_t1_body i tbl harg1 emb harg2 arg3 harg3 arg4 harg4 arg5 harg5 arg6 harg6 arg7 harg7 erow harg8 arg9 harg9 cc0_scratch2 k0_h1) >>= kk) Q) := by
  refine .trans (Scf.wp_for_bind _ _ Set.univ _ _ _ (k0_t1_ok i k0_h1) ⟨⟩ _ (fun k (_ : Unit) => issuing c ix hix T q f (8 * k))
    (fun k x => trip_issues c ix hix T q f i harg1 harg2 arg3 harg3 arg4 harg4 arg5 harg5 arg6 harg6 arg7 harg7 harg8 arg9 harg9 k0_h1 k x) (kk := kk) (Q := Q)) ?_
  refine wand_mono ?_ .rfl
  iintro HK
  iintro %x HD
  iapply HK
  have e : 8 * Scf.trips k0_t1_loop.lb k0_t1_loop.ub k0_t1_loop.st = 200 := by decide
  rw [e]
  iexact HD

/-- The first branch: clear the accumulator and start every copy; `kk` is what follows. -/
abbrev gather (i : grid0.Coords) (k0_h1 : k0_cond1 i = 1#1) (kk : Prog (TpuEff nD τ sig (Elt F) Λ₀ .tc) PUnit) : Prog (TpuEff nD τ sig (Elt F) Λ₀ .tc) PUnit := do
  let _ ← Prog.lift (.load arg9 (Rect.unit (s := S1x128) ![0, 0] S1x128.size inb_S1x128_S1x128_0_0).toLoadRect (View.loadsAt_vmem h_S1x128))
  Prog.lift (.store arg9 (Rect.unit (s := S1x128) ![0, 0] S1x128.size inb_S1x128_S1x128_0_0) (k0_pay1 (F := F)) Finset.univ (View.stores_vmem_bits_univ h_S1x128 rfl) (.inl rfl))
  Scf.Loop.for k0_t1_loop (k0_t1_ok i k0_h1) ⟨⟩ (k0_t1_body i tbl harg1 emb harg2 arg3 harg3 arg4 harg4 arg5 harg5 arg6 harg6 arg7 harg7 erow harg8 arg9 harg9 cc0_scratch2 k0_h1)
  kk

/-- What the first branch does: the accumulator is zero, and both cells' copies are under way. -/
theorem gather_spec (i : grid0.Coords) (k0_h1 : k0_cond1 i = 1#1) (f : S1x25600.Idx → Elt F .f32) (h : S1x128.Idx → Elt F .f32) {kk : Prog (TpuEff nD τ sig (Elt F) Λ₀ .tc) PUnit} {Q : PUnit → sProp 𝕄} :
    iprop(tblHeld c ix q ∗ semVal ((c : Thread nD τ), SemLoc.dma (cell 0)) 0 ∗ semVal ((c : Thread nD τ), SemLoc.dma (cell 1)) 0 ∗ eHeld c f
        ∗ bigSep Finset.univ (fun r => holdM c ix hix T r) ∗ owns (c : Thread nD τ) arg9 fullShare h)
      ⊢ iprop((iprop(tblHeld c ix q ∗ batch c ix hix T 0 100 0 ∗ batch c ix hix T 1 100 0 ∗ owns (c : Thread nD τ) arg9 fullShare k0_pay1) -∗ wp frame (wpE defs₀ Variants.none (c : Thread nD τ) none) Set.univ kk Q)
        -∗ wp frame (wpE defs₀ Variants.none (c : Thread nD τ) none) Set.univ
          (gather harg1 harg2 arg3 harg3 arg4 harg4 arg5 harg5 arg6 harg6 arg7 harg7 harg8 arg9 harg9 i k0_h1 kk) Q) := by
  iintro ⟨HT, H0, H1, HE, HM, HA⟩ HK
  iapply (load_full c arg9 zero2 fullShare h) $$ HA
  iintro HA
  iapply (store_full c arg9 zero2 h k0_pay1) $$ HA
  iintro HA
  imod (start c ix hix T f) $$ [H0 H1 HE HM] with HS
  · isplitl [H0]; · iexact H0
    isplitl [H1]; · iexact H1
    isplitl [HE]; · iexact HE
    iexact HM
  iapply (issue_loop c ix hix T q harg1 harg2 arg3 harg3 arg4 harg4 arg5 harg5 arg6 harg6 arg7 harg7 harg8 arg9 harg9 f i k0_h1) $$ [HT HS]
  · unfold issuing
    isplitl [HT]; · iexact HT
    iexact HS
  unfold issuing
  iintro ⟨HT, HS⟩
  iapply HK
  isplitl [HT]; · iexact HT
  iapply sep_assoc.1
  isplitl [HS]
  · iapply (all_started c ix hix T f)
    iexact HS
  iexact HA

/-- The second branch: wait for half `b` of the row and add its product with the block of the first matrix. -/
abbrev fold (b : Fin 2) (k0_h2 : k0_cond2 (pt b) = 1#1) (kk : Prog (TpuEff nD τ sig (Elt F) Λ₀ .tc) PUnit) : Prog (TpuEff nD τ sig (Elt F) Λ₀ .tc) PUnit := do
  Scf.Loop.for (k0_t2_loop (pt b)) (k0_t2_ok (pt b) k0_h2) ⟨⟩ (k0_t2_body (pt b) tbl harg1 emb harg2 arg3 harg3 arg4 harg4 arg5 harg5 arg6 harg6 arg7 harg7 erow harg8 arg9 harg9 cc0_scratch2 k0_h2)
  Scf.Loop.for (k0_t3_loop (pt b)) (k0_t3_ok (pt b) k0_h2) ⟨⟩ (k0_t3_body (pt b) tbl harg1 emb harg2 arg3 harg3 arg4 harg4 arg5 harg5 arg6 harg6 arg7 harg7 erow harg8 arg9 harg9 cc0_scratch2 k0_h2)
  let v17 : Vec F S1x128 .f32 ← Prog.lift (.load arg9 (Rect.unit (s := S1x128) ![0, 0] S1x128.size inb_S1x128_S1x128_0_0).toLoadRect (View.loadsAt_vmem h_S1x128))
  let v20 : Vec F S1x12800 .f32 ← Prog.lift (.load erow (Rect.unit (s := S1x25600) (k0_off41 (pt b)) S1x12800.size (k0_off41_inb (pt b) k0_h2)).toLoadRect (View.loadsAt_vmem h_S1x12800))
  let v22 : Vec F S12800x128 .f32 ← Prog.lift (.load arg3 (Rect.unit (s := S12800x128) ![0, 0] S12800x128.size inb_S12800x128_S12800x128_0_0).toLoadRect (View.loadsAt_vmem h_S12800x128))
  let v26 : Vec F S1x128 .f32 ← Prog.lift (.load arg9 (Rect.unit (s := S1x128) ![0, 0] S1x128.size inb_S1x128_S1x128_0_0).toLoadRect (View.loadsAt_vmem h_S1x128))
  Prog.lift (.store arg9 (Rect.unit (s := S1x128) ![0, 0] S1x128.size inb_S1x128_S1x128_0_0) (k0_pay2 v17 v20 v22) Finset.univ (View.stores_vmem_bits_univ h_S1x128 rfl) (.inl rfl))
  kk

/-- What the second branch does: cell `b` is back at zero, half `b` of the row is gathered and its product added to the accumulator. -/
theorem fold_spec (b : Fin 2) (k0_h2 : k0_cond2 (pt b) = 1#1) (h : S1x128.Idx → Elt F .f32) (q1 : PosShare TreeShare) (X1 : S12800x128.Idx → Elt F .f32) {kk : Prog (TpuEff nD τ sig (Elt F) Λ₀ .tc) PUnit} {Q : PUnit → sProp 𝕄} :
    iprop(tblHeld c ix q ∗ (∃ W, owes (c : Thread nD τ) 0 W) ∗ batch c ix hix T b 100 0 ∗ owns (c : Thread nD τ) arg3 q1 X1 ∗ owns (c : Thread nD τ) arg9 fullShare h)
      ⊢ iprop((iprop(tblHeld c ix q ∗ (∃ W, owes (c : Thread nD τ) 0 W) ∗ semVal ((c : Thread nD τ), SemLoc.dma (cell b)) 0
            ∗ eHalf c b (gathered ix hix T) ∗ bigSep Finset.univ (fun t => holdM c ix hix T (rowOf b t))
            ∗ owns (c : Thread nD τ) arg3 q1 X1 ∗ owns (c : Thread nD τ) arg9 fullShare (k0_pay2 h (halfOf b (gathered ix hix T)) X1)) -∗ wp frame (wpE defs₀ Variants.none (c : Thread nD τ) none) Set.univ kk Q)
        -∗ wp frame (wpE defs₀ Variants.none (c : Thread nD τ) none) Set.univ
          (fold harg1 harg2 arg3 harg3 arg4 harg4 arg5 harg5 arg6 harg6 arg7 harg7 harg8 arg9 harg9 b k0_h2 kk) Q) := by
  iintro ⟨HT, HO, HB, H3, HA⟩ HK
  iapply (drain_loop c ix hix T q harg1 harg2 arg3 harg3 arg4 harg4 arg5 harg5 arg6 harg6 arg7 harg7 harg8 arg9 harg9 b k0_h2) $$ [HT HO HB]
  · isplitl [HT]; · iexact HT
    isplitl [HO]; · iexact HO
    iexact HB
  unfold drained
  rw [delivered]
  iintro ⟨HT, HO, HS, HE, HM⟩
  iapply (Scf.wp_for0_bind _ _ Set.univ _ _ _ (k0_t3_ok (pt b) k0_h2) _ (rest_trips b) _ _ _ .rfl)
  iapply (load_full c arg9 zero2 fullShare h) $$ HA
  iintro HA
  iapply (load_half c b (half_at b) (gathered ix hix T)) $$ HE
  iintro HE
  iapply (load_full c arg3 zero2 q1 X1) $$ H3
  iintro H3
  iapply (load_full c arg9 zero2 fullShare h) $$ HA
  iintro HA
  iapply (store_full c arg9 zero2 h (k0_pay2 h (halfOf b (gathered ix hix T)) X1)) $$ HA
  iintro HA
  iapply HK
  isplitl [HT]; · iexact HT
  isplitl [HO]; · iexact HO
  isplitl [HS]; · iexact HS
  isplitl [HE]; · iexact HE
  isplitl [HM]; · iexact HM
  isplitl [H3]; · iexact H3
  iexact HA

/-- The third branch: one block of the result from the accumulator. -/
abbrev emit (kk : Prog (TpuEff nD τ sig (Elt F) Λ₀ .tc) PUnit) : Prog (TpuEff nD τ sig (Elt F) Λ₀ .tc) PUnit := do
  let v9 : Vec F S1x128 .f32 ← Prog.lift (.load arg9 (Rect.unit (s := S1x128) ![0, 0] S1x128.size inb_S1x128_S1x128_0_0).toLoadRect (View.loadsAt_vmem h_S1x128))
  let v10 : Vec F S1x128 .f32 ← Prog.lift (.load arg4 (Rect.unit (s := S1x128) ![0, 0] S1x128.size inb_S1x128_S1x128_0_0).toLoadRect (View.loadsAt_vmem h_S1x128))
  let v16 : Vec F S16384x128 .f32 ← Prog.lift (.load arg5 (Rect.unit (s := S16384x128) ![0, 0] S16384x128.size inb_S16384x128_S16384x128_0_0).toLoadRect (View.loadsAt_vmem h_S16384x128))
  let v20 : Vec F S16384 .f32 ← Prog.lift (.load arg6 (Rect.unit (s := S16384) ![0] S16384.size inb_S16384_S16384_0).toLoadRect (View.loadsAt_vmem h_S16384))
  let v23 : Vec F S1x16384 .f32 ← Prog.lift (.load arg7 (Rect.unit (s := S1x16384) ![0, 0] S1x16384.size inb_S1x16384_S1x16384_0_0).toLoadRect (View.loadsAt_vmem h_S1x16384))
  Prog.lift (.store arg7 (Rect.unit (s := S1x16384) ![0, 0] S1x16384.size inb_S1x16384_S1x16384_0_0) (k0_pay3 v9 v10 v16 v20) Finset.univ (View.stores_vmem_bits_univ h_S1x16384 rfl) (.inl rfl))
  kk

/-- What the third branch does: the output block holds the second layer of the accumulator. -/
theorem emit_spec (h B1 : S1x128.Idx → Elt F .f32) (X2 : S16384x128.Idx → Elt F .f32) (X3 : S16384.Idx → Elt F .f32) (Y : S1x16384.Idx → Elt F .f32)
    (q1 q2 q3 : PosShare TreeShare) {kk : Prog (TpuEff nD τ sig (Elt F) Λ₀ .tc) PUnit} {Q : PUnit → sProp 𝕄} :
    iprop(owns (c : Thread nD τ) arg9 fullShare h ∗ owns (c : Thread nD τ) arg4 q1 B1 ∗ owns (c : Thread nD τ) arg5 q2 X2 ∗ owns (c : Thread nD τ) arg6 q3 X3
        ∗ owns (c : Thread nD τ) arg7 fullShare Y)
      ⊢ iprop((iprop(owns (c : Thread nD τ) arg9 fullShare h ∗ owns (c : Thread nD τ) arg4 q1 B1 ∗ owns (c : Thread nD τ) arg5 q2 X2 ∗ owns (c : Thread nD τ) arg6 q3 X3
          ∗ owns (c : Thread nD τ) arg7 fullShare (k0_pay3 h B1 X2 X3)) -∗ wp frame (wpE defs₀ Variants.none (c : Thread nD τ) none) Set.univ kk Q)
        -∗ wp frame (wpE defs₀ Variants.none (c : Thread nD τ) none) Set.univ (emit arg4 arg5 arg6 arg7 arg9 kk) Q) := by
  iintro ⟨HA, H4, H5, H6, H7⟩ HK
  iapply (load_full c arg9 zero2 fullShare h) $$ HA
  iintro HA
  iapply (load_full c arg4 zero2 q1 B1) $$ H4
  iintro H4
  iapply (load_full c arg5 zero2 q2 X2) $$ H5
  iintro H5
  iapply (load_full c arg6 zero1 q3 X3) $$ H6
  iintro H6
  iapply (load_full c arg7 zero2 fullShare Y) $$ H7
  iintro H7
  iapply (store_full c arg7 zero2 Y (k0_pay3 h B1 X2 X3)) $$ H7
  iintro H7
  iapply HK
  isplitl [HA]; · iexact HA
  isplitl [H4]; · iexact H4
  isplitl [H5]; · iexact H5
  isplitl [H6]; · iexact H6
  iexact H7

end Branches

end Cert.KernelIdeal.Hand

end
-- ==== Proof.IdealPoints.lean ====
/- The kernel body at each grid point.

   The first point starts the copies and drains the first cell, the second drains the second and puts everything back at rest, and every
   later point writes one block of the result. -/
module

public import proofs.«01_k».proof.Proof.IdealBranches

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Which branches a point takes -/

theorem first_taken : k0_cond1 (pt 0) = 1#1 := by decide +kernel
theorem first_skipped : k0_cond1 (pt 1) ≠ 1#1 := by decide +kernel
theorem second_taken : ∀ b : Fin 2, k0_cond2 (pt b) = 1#1 := by decide +kernel
theorem third_skipped : ∀ b : Fin 2, k0_cond3 (pt b) ≠ 1#1 := by decide +kernel
theorem later_branches : ∀ t : Fin grid0.N, 2 ≤ t.val →
    k0_cond1 (grid0.coords t) ≠ 1#1 ∧ k0_cond2 (grid0.coords t) ≠ 1#1 ∧ k0_cond3 (grid0.coords t) = 1#1 := by decide +kernel

section Points

variable (c : Dev nD) (ix : S200.Idx → BitVec 32) (hix : InRange ix) (T : S100000x128.Idx → Elt F .f32) (q : PosShare TreeShare)
  (M : Fin 2 → S12800x128.Idx → Elt F .f32)

/-- The accumulator after the first point, -/
def acc1 : S1x128.Idx → Elt F .f32 := k0_pay2 k0_pay1 (halfOf 0 (gathered ix hix T)) (M 0)

/-- and after the second: the first layer before its bias. -/
def acc2 : S1x128.Idx → Elt F .f32 := k0_pay2 (acc1 ix hix T M) (halfOf 1 (gathered ix hix T)) (M 1)

/-- The accumulator. -/
abbrev accRef : Memref sig .tc .vmem S1x128 .f32 := Memref.whole cc0_scratch1

/-- What is held before the first point: everything at rest. -/
def before0 : sProp 𝕄 :=
  iprop(tblHeld c ix q ∗ embHeld c T ∗ (∃ r, prngReg c r) ∗ semVal ((c : Thread nD τ), SemLoc.dma (cell 0)) 0
    ∗ semVal ((c : Thread nD τ), SemLoc.dma (cell 1)) 0 ∗ (∃ f, eHeld c f) ∗ (∃ h, owns (c : Thread nD τ) accRef fullShare h))

/-- Before the second: the first cell drained, the second's copies under way. -/
def before1 : sProp 𝕄 :=
  iprop(tblHeld c ix q ∗ embRest c ix hix T ∗ (∃ r, prngReg c r) ∗ semVal ((c : Thread nD τ), SemLoc.dma (cell 0)) 0
    ∗ batch c ix hix T 1 100 0 ∗ eHalf c 0 (gathered ix hix T) ∗ bigSep Finset.univ (fun t => holdM c ix hix T (rowOf 0 t))
    ∗ owns (c : Thread nD τ) accRef fullShare (acc1 ix hix T M))

/-- Before every later point: everything at rest again, the row gathered and the first layer done. -/
def before2 : sProp 𝕄 :=
  iprop(tblHeld c ix q ∗ embHeld c T ∗ (∃ r, prngReg c r) ∗ semVal ((c : Thread nD τ), SemLoc.dma (cell 0)) 0
    ∗ semVal ((c : Thread nD τ), SemLoc.dma (cell 1)) 0 ∗ eHeld c (gathered ix hix T)
    ∗ owns (c : Thread nD τ) accRef fullShare (acc2 ix hix T M))

/-- The invariant between points, by the number of points done. -/
def Phi : ℕ → sProp 𝕄
  | 0 => before0 c ix T q
  | 1 => before1 c ix hix T q M
  | _ + 2 => before2 c ix hix T q M

variable (harg1 : tbl.IsWhole) (harg2 : emb.IsWhole) (arg3 : Memref sig .tc .vmem S12800x128 .f32) (harg3 : arg3.IsWhole)
  (arg4 : Memref sig .tc .vmem S1x128 .f32) (harg4 : arg4.IsWhole) (arg5 : Memref sig .tc .vmem S16384x128 .f32) (harg5 : arg5.IsWhole)
  (arg6 : Memref sig .tc .vmem S16384 .f32) (harg6 : arg6.IsWhole) (arg7 : Memref sig .tc .vmem S1x16384 .f32) (harg7 : arg7.IsWhole)
  (harg8 : erow.IsWhole) (harg9 : accRef.IsWhole)

variable (B1 : S1x128.Idx → Elt F .f32) (X2 : S16384x128.Idx → Elt F .f32) (X3 : S16384.Idx → Elt F .f32)

/-- The body, on the operands the pipeline gives it. -/
abbrev bodyAt (i : grid0.Coords) : Prog (TpuEff nD τ sig (Elt F) Λ₀ .tc) PUnit :=
  cc0__mlp_body (F := F) i tbl harg1 emb harg2 arg3 harg3 arg4 harg4 arg5 harg5 arg6 harg6 arg7 harg7 erow harg8 accRef harg9 cc0_scratch2

/-- The first point. -/
theorem point0 :
    iprop(before0 c ix T q ∗ (∃ W, owes (c : Thread nD τ) 0 W) ∗ owns (c : Thread nD τ) arg3 fullShare (M 0))
      ⊢ wp frame (wpE defs₀ Variants.none (c : Thread nD τ) none) Set.univ
          (bodyAt harg1 harg2 arg3 harg3 arg4 harg4 arg5 harg5 arg6 harg6 arg7 harg7 harg8 harg9 (pt 0)) fun _ =>
            iprop(before1 c ix hix T q M ∗ (∃ W, owes (c : Thread nD τ) 0 W) ∗ owns (c : Thread nD τ) arg3 fullShare (M 0)) := by
  unfold bodyAt
  rw [cc0__mlp_body_eq_skeleton]
  unfold cc0__mlp_body_skel
  rw [dif_pos first_taken, dif_pos (second_taken 0), dif_neg (third_skipped 0)]
  unfold before0
  rw [emb_split c ix hix T]
  iintro ⟨⟨HT, ⟨HR, HM⟩, HP, H0, H1, ⟨%f, HE⟩, ⟨%h, HA⟩⟩, HO, H3⟩
  iapply (gather_spec c ix hix T q harg1 harg2 arg3 harg3 arg4 harg4 arg5 harg5 arg6 harg6 arg7 harg7 harg8 accRef harg9 (pt 0) first_taken f h) $$ [HT H0 H1 HE HM HA]
  · isplitl [HT]; · iexact HT
    isplitl [H0]; · iexact H0
    isplitl [H1]; · iexact H1
    isplitl [HE]; · iexact HE
    isplitl [HM]; · iexact HM
    iexact HA
  iintro ⟨HT, HB0, HB1, HA⟩
  iapply (fold_spec c ix hix T q harg1 harg2 arg3 harg3 arg4 harg4 arg5 harg5 arg6 harg6 arg7 harg7 harg8 accRef harg9 0 (second_taken 0) k0_pay1 fullShare (M 0)) $$ [HT HO HB0 H3 HA]
  · isplitl [HT]; · iexact HT
    isplitl [HO]; · iexact HO
    isplitl [HB0]; · iexact HB0
    isplitl [H3]; · iexact H3
    iexact HA
  iintro ⟨HT, HO, H0, HE, HM, H3, HA⟩
  rw [show ∀ b, (pure b : Prog (TpuEff nD τ sig (Elt F) Λ₀ .tc) PUnit) = .ret b from fun _ => rfl, wp_ret]
  imodintro
  unfold before1
  isplitl [HT HR HP H0 HB1 HE HM HA]
  · isplitl [HT]; · iexact HT
    isplitl [HR]; · iexact HR
    isplitl [HP]; · iexact HP
    isplitl [H0]; · iexact H0
    isplitl [HB1]; · iexact HB1
    isplitl [HE]; · iexact HE
    isplitl [HM]; · iexact HM
    unfold acc1
    iexact HA
  isplitl [HO]; · iexact HO
  iexact H3

/-- The second point. -/
theorem point1 :
    iprop(before1 c ix hix T q M ∗ (∃ W, owes (c : Thread nD τ) 0 W) ∗ owns (c : Thread nD τ) arg3 fullShare (M 1))
      ⊢ wp frame (wpE defs₀ Variants.none (c : Thread nD τ) none) Set.univ
          (bodyAt harg1 harg2 arg3 harg3 arg4 harg4 arg5 harg5 arg6 harg6 arg7 harg7 harg8 harg9 (pt 1)) fun _ =>
            iprop(before2 c ix hix T q M ∗ (∃ W, owes (c : Thread nD τ) 0 W) ∗ owns (c : Thread nD τ) arg3 fullShare (M 1)) := by
  unfold bodyAt
  rw [cc0__mlp_body_eq_skeleton]
  unfold cc0__mlp_body_skel
  rw [dif_neg first_skipped, dif_pos (second_taken 1), dif_neg (third_skipped 1)]
  unfold before1
  iintro ⟨⟨HT, HR, HP, H0, HB1, HE0, HM0, HA⟩, HO, H3⟩
  iapply (fold_spec c ix hix T q harg1 harg2 arg3 harg3 arg4 harg4 arg5 harg5 arg6 harg6 arg7 harg7 harg8 accRef harg9 1 (second_taken 1) (acc1 ix hix T M) fullShare (M 1)) $$ [HT HO HB1 H3 HA]
  · isplitl [HT]; · iexact HT
    isplitl [HO]; · iexact HO
    isplitl [HB1]; · iexact HB1
    isplitl [H3]; · iexact H3
    iexact HA
  iintro ⟨HT, HO, H1, HE1, HM1, H3, HA⟩
  rw [show ∀ b, (pure b : Prog (TpuEff nD τ sig (Elt F) Λ₀ .tc) PUnit) = .ret b from fun _ => rfl, wp_ret]
  imodintro
  unfold before2
  rw [emb_split c ix hix T, e_halves, rows_split (fun r => holdM c ix hix T r)]
  isplitl [HT HR HP H0 H1 HE0 HE1 HM0 HM1 HA]
  · isplitl [HT]; · iexact HT
    isplitl [HR HM0 HM1]
    · isplitl [HR]; · iexact HR
      isplitl [HM0]; · iexact HM0
      iexact HM1
    isplitl [HP]; · iexact HP
    isplitl [H0]; · iexact H0
    isplitl [H1]; · iexact H1
    isplitl [HE0 HE1]
    · isplitl [HE0]; · iexact HE0
      iexact HE1
    unfold acc2
    iexact HA
  isplitl [HO]; · iexact HO
  iexact H3

/-- Every later point. -/
theorem point2 (t : Fin grid0.N) (ht : 2 ≤ t.val) (Y : S1x16384.Idx → Elt F .f32) :
    iprop(before2 c ix hix T q M ∗ owns (c : Thread nD τ) arg4 fullShare B1 ∗ owns (c : Thread nD τ) arg5 fullShare X2
        ∗ owns (c : Thread nD τ) arg6 fullShare X3 ∗ owns (c : Thread nD τ) arg7 fullShare Y)
      ⊢ wp frame (wpE defs₀ Variants.none (c : Thread nD τ) none) Set.univ
          (bodyAt harg1 harg2 arg3 harg3 arg4 harg4 arg5 harg5 arg6 harg6 arg7 harg7 harg8 harg9 (grid0.coords t)) fun _ =>
            iprop(before2 c ix hix T q M ∗ owns (c : Thread nD τ) arg4 fullShare B1 ∗ owns (c : Thread nD τ) arg5 fullShare X2
              ∗ owns (c : Thread nD τ) arg6 fullShare X3 ∗ owns (c : Thread nD τ) arg7 fullShare (k0_pay3 (acc2 ix hix T M) B1 X2 X3)) := by
  obtain ⟨h1, h2, h3⟩ := later_branches t ht
  unfold bodyAt
  rw [cc0__mlp_body_eq_skeleton]
  unfold cc0__mlp_body_skel
  rw [dif_neg h1, dif_neg h2, dif_pos h3]
  unfold before2
  iintro ⟨⟨HT, HM, HP, H0, H1, HE, HA⟩, H4, H5, H6, H7⟩
  iapply (emit_spec c arg4 arg5 arg6 arg7 accRef (acc2 ix hix T M) B1 X2 X3 Y fullShare fullShare fullShare) $$ [HA H4 H5 H6 H7]
  · isplitl [HA]; · iexact HA
    isplitl [H4]; · iexact H4
    isplitl [H5]; · iexact H5
    isplitl [H6]; · iexact H6
    iexact H7
  iintro ⟨HA, H4, H5, H6, H7⟩
  rw [show ∀ b, (pure b : Prog (TpuEff nD τ sig (Elt F) Λ₀ .tc) PUnit) = .ret b from fun _ => rfl, wp_ret]
  imodintro
  isplitl [HT HM HP H0 H1 HE HA]
  · isplitl [HT]; · iexact HT
    isplitl [HM]; · iexact HM
    isplitl [HP]; · iexact HP
    isplitl [H0]; · iexact H0
    isplitl [H1]; · iexact H1
    isplitl [HE]; · iexact HE
    iexact HA
  isplitl [H4]; · iexact H4
  isplitl [H5]; · iexact H5
  isplitl [H6]; · iexact H6
  iexact H7

end Points

end Cert.KernelIdeal.Hand

end
-- ==== Proof.IdealData.lean ====
/- The pipeline's data: what each window's buffer holds at each point, and what the body leaves in it. -/
module

public import proofs.«01_k».proof.Proof.IdealPoints
public import proofs.«01_k».proof.Proof.Gen.KernelIdeal.Launch
public import Idealize.ShloMosaic.Lib.Pipeline.Frame
public import Idealize.ShloMosaic.Lib.Pipeline.FrameBody
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The windows -/

/-- Where the block of the second matrix or of its bias is the same, so is its cut. -/
theorem cut2 (a : (pcfg0 (F := F)).Adm) (t t' : Fin (cfg0 a).N) (h : ((cfg0 a).win 2).index t = ((cfg0 a).win 2).index t') :
    ((cfg0 a).win 2).clip ((cfg0 a).grid.coords t) = ((cfg0 a).win 2).clip ((cfg0 a).grid.coords t') := by
  show clip0_2 (grid0.coords t) = clip0_2 (grid0.coords t')
  have h' : cc0_transform_3 (grid0.coords t) = cc0_transform_3 (grid0.coords t') := h
  funext x
  show Pipeline.Clip.of _ _ _ = Pipeline.Clip.of _ _ _
  rw [h']
theorem cut3 (a : (pcfg0 (F := F)).Adm) (t t' : Fin (cfg0 a).N) (h : ((cfg0 a).win 3).index t = ((cfg0 a).win 3).index t') :
    ((cfg0 a).win 3).clip ((cfg0 a).grid.coords t) = ((cfg0 a).win 3).clip ((cfg0 a).grid.coords t') := by
  show clip0_3 (grid0.coords t) = clip0_3 (grid0.coords t')
  have h' : cc0_transform_4 (grid0.coords t) = cc0_transform_4 (grid0.coords t') := h
  funext x
  show Pipeline.Clip.of _ _ _ = Pipeline.Clip.of _ _ _
  rw [h']

section Data

variable (a : (pcfg0 (F := F)).Adm) (c : Dev nD) (A : (w : Fin (cfg0 a).W) → Buf (Elt F) (((cfg0 a).win w).arr.view.loc (c.tc : Thread nD τ)))
  (T : S100000x128.Idx → Elt F .f32)

/-- The token numbers. -/
def toks : S200.Idx → BitVec 32 := a.1 0

/-- What a fetch of window `w` at point `t` leaves in a buffer that held `d`. -/
def fet (w : Fin (cfg0 a).W) (t : Fin (cfg0 a).N) (d : ((cfg0 a).win w).block.Idx → Elt F ((cfg0 a).win w).elt) :
    ((cfg0 a).win w).block.Idx → Elt F ((cfg0 a).win w).elt :=
  ((cfg0 a).win w).fill ((cfg0 a).grid.coords t) d ((((cfg0 a).win w).blk t).view.read (Elt F) (A w))

/-- The same, of a buffer that held anything. -/
def some' (w : Fin (cfg0 a).W) (t : Fin (cfg0 a).N) : ((cfg0 a).win w).block.Idx → Elt F ((cfg0 a).win w).elt :=
  fet a c A w t fun _ => Classical.arbitrary _

/-- The first matrix's blocks at the first two points. -/
def mats (b : Fin 2) : S12800x128.Idx → Elt F .f32 := some' a c A 0 ⟨b.val, by have := b.isLt; show b.val < grid0.N; rw [N_0]; omega⟩

variable (hix : InRange (toks a))

/-- The pipeline's data: every input window is left as fetched, the invariant counts points. -/
def dat : Pipeline.Dat τ (Elt F) Unit ℕ (Pipeline.UD sig nD τ) ℕ (cfg0 a) c where
  A := A
  after := some' a c A
  Φ t := Phi c (toks a) hix T fullShare.right (mats a c A) t.val
  q _ := fullShare
  owed _ := 0

/-- The output window alone is held to a relation, -/
def rel : Fin (cfg0 a).W → Bool := fun w => w == 4

/-- at the points that write it: the second layer, of whatever the cut blocks' buffers held outside the cut. -/
def outRel : (w : Fin (cfg0 a).W) → (t : Fin (cfg0 a).N) → (((cfg0 a).win w).block.Idx → Elt F ((cfg0 a).win w).elt) → Prop
  | ⟨4, _⟩, t, X => 2 ≤ t.val → ∃ d2 d3, X = k0_pay3 (acc2 (toks a) hix T (mats a c A)) (some' a c A 1 t) (fet a c A 2 t d2) (fet a c A 3 t d3)
  | _, _, _ => True

/-- What a fetch leaves, cut to what it moved, is the block. -/
theorem keeps (w : Fin (cfg0 a).W) (t : Fin (cfg0 a).N) : ((cfg0 a).win w).cut ((cfg0 a).grid.coords t) (some' a c A w t)
    = (((cfg0 a).win w).blk t).view.read (Elt F) (A w) := ((cfg0 a).win w).cut_fill _ _ _

/-- What an input window holds when the body runs. -/
theorem finds0 (t : Fin (cfg0 a).N) (d) : (dat a c A T hix).before 0 t d = fet a c A 0 t d :=
  (dat a c A T hix).before_in_eq_fetched 0 rfl (fun _ => rfl) (fun _ _ _ => rfl) (keeps a c A 0) t d
theorem finds1 (t : Fin (cfg0 a).N) (d) : (dat a c A T hix).before 1 t d = fet a c A 1 t d :=
  (dat a c A T hix).before_in_eq_fetched 1 rfl (fun _ => rfl) (fun _ _ _ => rfl) (keeps a c A 1) t d
theorem finds2 (t : Fin (cfg0 a).N) (d) : (dat a c A T hix).before 2 t d = fet a c A 2 t d :=
  (dat a c A T hix).before_in_eq_fetched 2 rfl (fun _ => rfl) (cut2 a) (keeps a c A 2) t d
theorem finds3 (t : Fin (cfg0 a).N) (d) : (dat a c A T hix).before 3 t d = fet a c A 3 t d :=
  (dat a c A T hix).before_in_eq_fetched 3 rfl (fun _ => rfl) (cut3 a) (keeps a c A 3) t d

/-- An uncut window's buffer holds the block whatever it held. -/
theorem fet0 (t : Fin (cfg0 a).N) (d) : fet a c A 0 t d = some' a c A 0 t :=
  Pipeline.fill_of_clip_none (cfg := cfg0 a) 0 _ (fun _ => rfl) d (fun _ => Classical.arbitrary _) _
theorem fet1 (t : Fin (cfg0 a).N) (d) : fet a c A 1 t d = some' a c A 1 t :=
  Pipeline.fill_of_clip_none (cfg := cfg0 a) 1 _ (fun _ => rfl) d (fun _ => Classical.arbitrary _) _

/-- A cut window's buffer is left as it was found. -/
theorem left2 (t : Fin (cfg0 a).N) (d) :
    ((cfg0 a).win 2).fill ((cfg0 a).grid.coords t) d (((cfg0 a).win 2).cut ((cfg0 a).grid.coords t) (some' a c A 2 t)) = fet a c A 2 t d := by
  unfold some' fet
  rw [((cfg0 a).win 2).cut_fill]
theorem left3 (t : Fin (cfg0 a).N) (d) :
    ((cfg0 a).win 3).fill ((cfg0 a).grid.coords t) d (((cfg0 a).win 3).cut ((cfg0 a).grid.coords t) (some' a c A 3 t)) = fet a c A 3 t d := by
  unfold some' fet
  rw [((cfg0 a).win 3).cut_fill]

/-- The body's row at a point. -/
theorem row (t : Fin (cfg0 a).N) : defs₀ (F := F) .tc (cfg0 a).body ((cfg0 a).bodyArgs t ((cfg0 a).slots t))
    = bodyAt (Memref.isWhole_whole _) (Memref.isWhole_whole _) (spec0_0.stage ((cfg0 a).slots t 0)) (hstage0_0 (((cfg0 a).slots t 0).cast nbuf0_0))
      (spec0_1.stage ((cfg0 a).slots t 1)) (hstage0_1 (((cfg0 a).slots t 1).cast nbuf0_1)) (spec0_2.stage ((cfg0 a).slots t 2)) (hstage0_2 (((cfg0 a).slots t 2).cast nbuf0_2))
      (spec0_3.stage ((cfg0 a).slots t 3)) (hstage0_3 (((cfg0 a).slots t 3).cast nbuf0_3)) (spec0_4.stage ((cfg0 a).slots t 4)) (hstage0_4 (((cfg0 a).slots t 4).cast nbuf0_4))
      (Memref.isWhole_whole _) (Memref.isWhole_whole _) (grid0.coords t) := by
  unfold defs₀
  rw [Defs.onTc_tc]

end Data

end Cert.KernelIdeal.Hand

end
-- ==== Proof.IdealObligation.lean ====
/- The body obligation of the pipeline's data: at every point the body takes what the windows hold to what they are left with. -/
module

public import proofs.«01_k».proof.Proof.IdealData

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Obligation

variable (a : (pcfg0 (F := F)).Adm) (c : Dev nD) (A : (w : Fin (cfg0 a).W) → Buf (Elt F) (((cfg0 a).win w).arr.view.loc (c.tc : Thread nD τ)))
  (T : S100000x128.Idx → Elt F .f32) (hix : InRange (toks a))

/-- What the output window's buffer may hold after point `t`. -/
abbrev outOk (t : Fin grid0.N) (X : S1x16384.Idx → Elt F .f32) : Prop := outRel a c A T hix 4 t X

variable (harg1 : tbl.IsWhole) (harg2 : emb.IsWhole) (arg3 : Memref sig .tc .vmem S12800x128 .f32) (harg3 : arg3.IsWhole)
  (arg4 : Memref sig .tc .vmem S1x128 .f32) (harg4 : arg4.IsWhole) (arg5 : Memref sig .tc .vmem S16384x128 .f32) (harg5 : arg5.IsWhole)
  (arg6 : Memref sig .tc .vmem S16384 .f32) (harg6 : arg6.IsWhole) (arg7 : Memref sig .tc .vmem S1x16384 .f32) (harg7 : arg7.IsWhole)
  (harg8 : erow.IsWhole) (harg9 : accRef.IsWhole)

/-- The body at a point of the grid. -/
theorem body_at (t : Fin grid0.N) (d2 : S16384x128.Idx → Elt F .f32) (d3 : S16384.Idx → Elt F .f32) (Y : S1x16384.Idx → Elt F .f32) :
    iprop(Phi c (toks a) hix T fullShare.right (mats a c A) t.val ∗ (∃ W, owes (c : Thread nD τ) 0 W)
        ∗ owns (c : Thread nD τ) arg3 fullShare (some' a c A 0 t) ∗ owns (c : Thread nD τ) arg4 fullShare (some' a c A 1 t)
        ∗ owns (c : Thread nD τ) arg5 fullShare (fet a c A 2 t d2) ∗ owns (c : Thread nD τ) arg6 fullShare (fet a c A 3 t d3)
        ∗ owns (c : Thread nD τ) arg7 fullShare Y)
      ⊢ wp frame (wpE defs₀ Variants.none (c : Thread nD τ) none) Set.univ
          (bodyAt harg1 harg2 arg3 harg3 arg4 harg4 arg5 harg5 arg6 harg6 arg7 harg7 harg8 harg9 (grid0.coords t)) fun _ =>
            iprop(Phi c (toks a) hix T fullShare.right (mats a c A) (t.val + 1) ∗ (∃ W, owes (c : Thread nD τ) 0 W)
              ∗ owns (c : Thread nD τ) arg3 fullShare (some' a c A 0 t) ∗ owns (c : Thread nD τ) arg4 fullShare (some' a c A 1 t)
              ∗ owns (c : Thread nD τ) arg5 fullShare (fet a c A 2 t d2) ∗ owns (c : Thread nD τ) arg6 fullShare (fet a c A 3 t d3)
              ∗ ∃ X, ⌜outOk a c A T hix t X⌝ ∗ owns (c : Thread nD τ) arg7 fullShare X) := by
  match t with
  | ⟨0, h⟩ =>
    rw [show Phi c (toks a) hix T fullShare.right (mats a c A) (Fin.val (⟨0, h⟩ : Fin grid0.N)) = before0 c (toks a) T fullShare.right from rfl,
      show Phi c (toks a) hix T fullShare.right (mats a c A) (Fin.val (⟨0, h⟩ : Fin grid0.N) + 1) = before1 c (toks a) hix T fullShare.right (mats a c A) from rfl]
    iintro ⟨HΦ, HO, H3, H4, H5, H6, H7⟩
    iapply wp_wand $$ [HΦ HO H3]
    · iapply (point0 c (toks a) hix T fullShare.right (mats a c A) harg1 harg2 arg3 harg3 arg4 harg4 arg5 harg5 arg6 harg6 arg7 harg7 harg8 harg9)
      isplitl [HΦ]; · iexact HΦ
      isplitl [HO]; · iexact HO
      iexact H3
    iintro %_ ⟨HΦ, HO, H3⟩
    isplitl [HΦ]; · iexact HΦ
    isplitl [HO]; · iexact HO
    isplitl [H3]; · iexact H3
    isplitl [H4]; · iexact H4
    isplitl [H5]; · iexact H5
    isplitl [H6]; · iexact H6
    iexists Y
    isplitr
    · ipureintro
      intro h2
      exact absurd h2 (by simp)
    iexact H7
  | ⟨1, h⟩ =>
    rw [show Phi c (toks a) hix T fullShare.right (mats a c A) (Fin.val (⟨1, h⟩ : Fin grid0.N)) = before1 c (toks a) hix T fullShare.right (mats a c A) from rfl,
      show Phi c (toks a) hix T fullShare.right (mats a c A) (Fin.val (⟨1, h⟩ : Fin grid0.N) + 1) = before2 c (toks a) hix T fullShare.right (mats a c A) from rfl]
    iintro ⟨HΦ, HO, H3, H4, H5, H6, H7⟩
    iapply wp_wand $$ [HΦ HO H3]
    · iapply (point1 c (toks a) hix T fullShare.right (mats a c A) harg1 harg2 arg3 harg3 arg4 harg4 arg5 harg5 arg6 harg6 arg7 harg7 harg8 harg9)
      isplitl [HΦ]; · iexact HΦ
      isplitl [HO]; · iexact HO
      iexact H3
    iintro %_ ⟨HΦ, HO, H3⟩
    isplitl [HΦ]; · iexact HΦ
    isplitl [HO]; · iexact HO
    isplitl [H3]; · iexact H3
    isplitl [H4]; · iexact H4
    isplitl [H5]; · iexact H5
    isplitl [H6]; · iexact H6
    iexists Y
    isplitr
    · ipureintro
      intro h2
      exact absurd h2 (by simp)
    iexact H7
  | ⟨n + 2, h⟩ =>
    rw [show Phi c (toks a) hix T fullShare.right (mats a c A) (Fin.val (⟨n + 2, h⟩ : Fin grid0.N)) = before2 c (toks a) hix T fullShare.right (mats a c A) from rfl,
      show Phi c (toks a) hix T fullShare.right (mats a c A) (Fin.val (⟨n + 2, h⟩ : Fin grid0.N) + 1) = before2 c (toks a) hix T fullShare.right (mats a c A) from rfl]
    iintro ⟨HΦ, HO, H3, H4, H5, H6, H7⟩
    iapply wp_wand $$ [HΦ H4 H5 H6 H7]
    · iapply (point2 c (toks a) hix T fullShare.right (mats a c A) harg1 harg2 arg3 harg3 arg4 harg4 arg5 harg5 arg6 harg6 arg7 harg7 harg8 harg9
        (some' a c A 1 ⟨n + 2, h⟩) (fet a c A 2 ⟨n + 2, h⟩ d2) (fet a c A 3 ⟨n + 2, h⟩ d3) ⟨n + 2, h⟩ (Nat.le_add_left _ _) Y)
      isplitl [HΦ]; · iexact HΦ
      isplitl [H4]; · iexact H4
      isplitl [H5]; · iexact H5
      isplitl [H6]; · iexact H6
      iexact H7
    iintro %_ ⟨HΦ, H4, H5, H6, H7⟩
    isplitl [HΦ]; · iexact HΦ
    isplitl [HO]; · iexact HO
    isplitl [H3]; · iexact H3
    isplitl [H4]; · iexact H4
    isplitl [H5]; · iexact H5
    isplitl [H6]; · iexact H6
    iexists _
    isplitr
    · ipureintro
      intro _
      exact ⟨d2, d3, rfl⟩
    iexact H7

/-- The body obligation of the pipeline's data. -/
theorem obligation : Pipeline.BodyObligationRel (dat a c A T hix) defs₀ Variants.none () Set.univ (rel a) (outRel a c A T hix) := by
  intro t
  rw [bigSep_W0, bigSep_W0, row]
  have hΦ : (dat a c A T hix).Φ t.castSucc = Phi c (toks a) hix T fullShare.right (mats a c A) t.val :=
    Pipeline.Dat.Φ_castSucc (fun n _ => Phi c (toks a) hix T fullShare.right (mats a c A) n) t
  rw [hΦ]
  show iprop(Phi c (toks a) hix T fullShare.right (mats a c A) t.val ∗ (dat a c A T hix).owesAt () t.castSucc
      ∗ (∃ d, owns (c : Thread nD τ) _ fullShare ((dat a c A T hix).before 0 t d)) ∗ (∃ d, owns (c : Thread nD τ) _ fullShare ((dat a c A T hix).before 1 t d))
      ∗ (∃ d, owns (c : Thread nD τ) _ fullShare ((dat a c A T hix).before 2 t d)) ∗ (∃ d, owns (c : Thread nD τ) _ fullShare ((dat a c A T hix).before 3 t d))
      ∗ (∃ Y, ⌜_⌝ ∗ owns (c : Thread nD τ) _ fullShare Y))
    ⊢ wp _ _ _ _ fun _ => iprop(Phi c (toks a) hix T fullShare.right (mats a c A) (t.val + 1) ∗ (dat a c A T hix).owesAt () t.succ
      ∗ owns (c : Thread nD τ) _ fullShare (some' a c A 0 t) ∗ owns (c : Thread nD τ) _ fullShare (some' a c A 1 t)
      ∗ (∃ d, owns (c : Thread nD τ) _ fullShare (((cfg0 a).win 2).fill ((cfg0 a).grid.coords t) d (((cfg0 a).win 2).cut ((cfg0 a).grid.coords t) (some' a c A 2 t))))
      ∗ (∃ d, owns (c : Thread nD τ) _ fullShare (((cfg0 a).win 3).fill ((cfg0 a).grid.coords t) d (((cfg0 a).win 3).cut ((cfg0 a).grid.coords t) (some' a c A 3 t))))
      ∗ ∃ X, ⌜outRel a c A T hix 4 t X⌝ ∗ owns (c : Thread nD τ) _ fullShare X)
  iintro ⟨HΦ, HO, ⟨%d0, H0⟩, ⟨%d1, H1⟩, ⟨%d2, H2⟩, ⟨%d3, H3⟩, ⟨%Y, -, H4⟩⟩
  rw [finds0, finds1, finds2, finds3, fet0, fet1]
  unfold Pipeline.Dat.owesAt Pipeline.owesWithin
  icases HO with ⟨%W, -, HO⟩
  iapply wp_wand $$ [HΦ HO H0 H1 H2 H3 H4]
  · iapply (body_at a c A T hix _ _ _ _ _ _ _ _ _ _ _ _ _ _ t d2 d3 Y)
    isplitl [HΦ]; · iexact HΦ
    isplitl [HO]; · iexists W; iexact HO
    isplitl [H0]; · iexact H0
    isplitl [H1]; · iexact H1
    isplitl [H2]; · iexact H2
    isplitl [H3]; · iexact H3
    iexact H4
  iintro %_ ⟨HΦ, ⟨%W', HO⟩, H0, H1, H2, H3, H4⟩
  isplitl [HΦ]; · iexact HΦ
  isplitl [HO]
  · iexists W'
    isplitr
    · ipureintro; exact fun _ _ => Or.inl trivial
    iexact HO
  isplitl [H0]; · iexact H0
  isplitl [H1]; · iexact H1
  isplitl [H2]
  · iexists d2
    rw [left2]
    iexact H2
  isplitl [H3]
  · iexists d3
    rw [left3]
    iexact H3
  iexact H4

end Obligation

end Cert.KernelIdeal.Hand

end
-- ==== Proof.IdealRun.lean ====
/- The launch: the kernel run from any memory whose token numbers are in range. -/
module

public import proofs.«01_k».proof.Proof.IdealObligation

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the launch is given -/

/-- Every buffer at the kernel's entry: the two host lines done. -/
def V (m : (ℓ : Loc nD τ sig) → Buf (Elt F) ℓ) (c : Dev nD) (b : Ref sig .tc) : Buf (Elt F) ((c : Thread nD τ).loc b) :=
  StableHlo.after hostOps0 (fun b => m (c, b)) b

/-- A buffer neither host line writes is as it was. -/
theorem V_of (m : (ℓ : Loc nD τ sig) → Buf (Elt F) ℓ) (c : Dev nD) (b : Ref sig .tc) (h0 : b ≠ main_v0) (h1 : b ≠ main_v1) :
    V m c b = m ((c : Thread nD τ).loc b) := by
  refine StableHlo.after_of_writes_sub (W := [main_v0, main_v1]) hostOps0 _ ⟨?_, ?_⟩ (by simp [h0, h1])
  · exact fun x hx => by simp [show x = Proc.devRef .tc main_v0 from by simpa using hx]
  · exact fun x hx => by simp [show x = Proc.devRef .tc main_v1 from by simpa using hx]

/-- The kernel's own cells. -/
def osem0 : Fin 2 → SemLoc sig := fun b => .dma (cell b)
theorem ownSemFacts0 : Pipeline.OwnSemFacts spec0 osem0 := by decide
/-- The buffer the kernel's own copies read. -/
def H0 : Finset (Ref sig .tc) := {main_arg1}
theorem H0_sub : H0 ⊆ Pipeline.restRefsP sig pre0 spec0 := by decide

theorem hostOps0_fresh : (hostOps0 : List (HloOp τ sig (Elt F))).Forall fun op => op.fresh = ∅ := ⟨rfl, rfl⟩

section Launch

variable (m : (ℓ : Loc nD τ sig) → Buf (Elt F) ℓ)

/-- The tables the pipeline runs at: the token numbers of the one device. -/
def adm : (pcfg0 (F := F)).Adm := ⟨fun k => V m 0 (pre0.ref k), trivial⟩

theorem one_dev (c : Dev nD) : c = 0 := by fin_cases c; rfl

theorem tables (c : Dev nD) (k) : V m c (pre0.ref k) = (adm m).1 k := by rw [one_dev c]; rfl

/-- The windows' arrays at the entry. -/
def arrs (c : Dev nD) (w : Fin (cfg0 (adm m)).W) : Buf (Elt F) (((cfg0 (adm m)).win w).arr.view.loc (c : Thread nD τ)) :=
  V m c (Pipeline.arrRef (cfg0 (adm m)).spec w)

/-- The embedding table at the entry. -/
def table (c : Dev nD) : S100000x128.Idx → Elt F .f32 := V m c main_arg1

variable (hix : InRange (toks (adm m)))

/-- The relational data of the run. -/
def rdat (c : Dev nD) : Pipeline.RDat τ (Elt F) Unit ℕ (Pipeline.UD sig nD τ) ℕ (cfg0 (adm m)) c :=
  (dat (adm m) c (arrs m c) (table m c) hix).toRRel (rel (adm m)) (outRel (adm m) c (arrs m c) (table m c) hix)

theorem sems_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma (cell 0)) 0 ∗ semVal ((c : Thread nD τ), SemLoc.dma (cell 1)) 0) :=
  Pipeline.ownSems0_eq_of_list c osem0 [0, 1] (by decide) (by decide)

theorem emb_eq (c : Dev nD) : (bigSep H0 fun b => ((c : Thread nD τ).loc b) ↦{fullShare} V m c b : sProp 𝕄) = embHeld c (table m c) :=
  BI.bigSep_eq_bigSepL_of_eq [main_arg1] (by decide) (by decide) _

theorem tbl_eq (c : Dev nD) : (Pipeline.ΦT pre0 (adm m).1 c : sProp 𝕄) = tblHeld c (toks (adm m)) fullShare.right :=
  bigSep_univ_eq_bigSepL [(0 : Fin 1)] (by decide) (by decide) _

theorem enter (c : Dev nD) :
    iprop(Pipeline.ΦD osem0 spec0 H0 (V m) c ∗ Pipeline.ΦT pre0 (adm m).1 c) ⊢ (rdat m hix c).Φ 0 := by
  show _ ⊢ before0 c (toks (adm m)) (table m c) fullShare.right
  rw [Pipeline.ΦD_eq, scopedRest0_eq, sems_eq, emb_eq, tbl_eq]
  unfold before0
  simp only [accRef, owns_whole]
  iintro ⟨⟨⟨⟨%f, HE⟩, ⟨%h, HA⟩⟩, HP, ⟨H0, H1⟩, HM⟩, HT⟩
  isplitl [HT]; · iexact HT
  isplitl [HM]; · iexact HM
  isplitl [HP]; · iexact HP
  isplitl [H0]; · iexact H0
  isplitl [H1]; · iexact H1
  isplitl [HE]; · iexists f; iexact HE
  iexists h
  iexact HA

theorem leave (c : Dev nD) : (rdat m hix c).Φ (Fin.last (cfg0 (adm m)).N) ⊢ Pipeline.ΦD osem0 spec0 H0 (V m) c := by
  show Phi c (toks (adm m)) hix (table m c) fullShare.right (mats (adm m) c (arrs m c)) grid0.N ⊢ _
  rw [N_0]
  show before2 c (toks (adm m)) hix (table m c) fullShare.right (mats (adm m) c (arrs m c)) ⊢ _
  rw [Pipeline.ΦD_eq, scopedRest0_eq, sems_eq, emb_eq]
  unfold before2
  rw [owns_whole]
  iintro ⟨-, HM, HP, H0, H1, HE, HA⟩
  isplitl [HE HA]
  · isplitl [HE]
    · iexists gathered (toks (adm m)) hix (table m c); iexact HE
    iexists acc2 (toks (adm m)) hix (table m c) (mats (adm m) c (arrs m c))
    iexact HA
  isplitl [HP]; · iexact HP
  isplitl [H0 H1]
  · isplitl [H0]; · iexact H0
    iexact H1
  iexact HM

theorem hmain : Pipeline.HMainP (Ix := Unit) (Name := ℕ) (U := Pipeline.UD sig nD τ) (Lvl := ℕ) pcfgs 0 defs₀ Variants.none m main (V m) :=
  Pipeline.hmainP_prefix pcfgs 0 defs₀ Variants.none m main hostOps0 hostOps0_sub hostOps0_fresh main_chain

set_option backward.isDefEq.respectTransparency.types false in
/-- Every run ends, with the windows' arrays as the data say, the other buffers as they were at the entry and every semaphore at zero. -/
theorem run (ρ : Dev nD → PrngReg) :
    θ_run (defs (F := F)) (onTc (τ := τ) (main (F := F))) ⟨m, fun _ => 0, ρ⟩
      (fun r => Pipeline.RDat.FramePost (cfg0 (adm m)) (rdat m hix) (V m) r ∧ r.2.sem = fun _ => 0) :=
  Pipeline.RDat.θ_run_frameP_dma pcfgs (fun _ => adm m) (0 : Fin 1) launch0 osem0 defs₀ Variants.none (rdat m hix) ownSemFacts0 H0 H0_sub m ρ main
    (hbody := fun c => (obligation (adm m) c (arrs m c) (table m c) hix).toRRel)
    (hshare := fun c => (dat (adm m) c (arrs m c) (table m c) hix).share_full fun _ => rfl) (howed := fun _ _ => rfl) (V := V m) (hmain := hmain m) (hA := fun _ _ => rfl) (hpf := tables m)
    (hin := enter m hix) (hout := leave m hix) (Q' := fun r => Pipeline.RDat.FramePost (cfg0 (adm m)) (rdat m hix) (V m) r ∧ r.2.sem = fun _ => 0) (hQ' := fun _ h => h)

end Launch

end Cert.KernelIdeal.Hand

end
-- ==== Proof.IdealEnds.lean ====
/- The kernel's arguments end as they were, under the token numbers' range. -/
module

public import proofs.«01_k».proof.Proof.IdealRun
public import proofs.«01_k».proof.Pre_tokens

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Ends

/-- The buffers no window holds. -/
theorem rest_of : ∀ b ∈ [main_arg0, main_arg1, main_arg3, main_arg4], b ∈ Pipeline.restRefs sig spec0 := by decide

variable (m : (ℓ : Loc nD τ sig) → Buf (Elt F) ℓ)

/-- The tokens the pipeline runs at are the argument. -/
theorem toks_eq : toks (adm m) = m (((0 : Dev nD) : Thread nD τ).loc main_arg0) := V_of m 0 main_arg0 (by decide) (by decide)

/-- A word at least zero and below the table's height, read as signed, is below it read as a number. -/
theorem word_range (w : BitVec 32) (h0 : (0#32).sle w = true) (h1 : w.slt 100000#32 = true) : w.toNat < 100000 := by
  simp only [BitVec.sle, BitVec.slt, decide_eq_true_eq] at h0 h1
  have e := BitVec.toInt_eq_toNat_cond w
  have e0 : (0#32 : BitVec 32).toInt = 0 := by decide
  have e1 : (100000#32 : BitVec 32).toInt = 100000 := by decide
  have := w.isLt
  rw [e0] at h0
  rw [e1] at h1
  split at e <;> omega

/-- Both bits of a conjunction that holds. -/
theorem both : ∀ p q : BitVec 1, IntOp.andi p q = 1#1 → p = 1#1 ∧ q = 1#1 := by decide

/-- A bit that is one. -/
theorem bit : ∀ b : Bool, BitVec.ofBool b = 1#1 → b = true := by decide

/-- The precondition says the token numbers are rows of the table. -/
theorem inRange [Cert.Pre_tokens.Facts] {a1 a2 a3 a4 a5}
    (h : Cert.Pre_tokens.fn (F := F) (m (((0 : Dev nD) : Thread nD τ).loc main_arg0)) a1 a2 a3 a4 a5 = fun _ => 1#1) : InRange (toks (adm m)) := by
  intro r
  rw [toks_eq]
  have e := congrFun h (at1 r)
  have e' : IntOp.andi (IntOp.cmpi .sge (word (m (((0 : Dev nD) : Thread nD τ).loc main_arg0)) r) 0#32)
      (IntOp.cmpi .slt (word (m (((0 : Dev nD) : Thread nD τ).loc main_arg0)) r) 100000#32) = 1#1 := e
  obtain ⟨h0, h1⟩ := both _ _ e'
  exact word_range _ (bit _ h0) (bit _ h1)

variable (hix : InRange (toks (adm m)))

/-- The arguments after a run. -/
theorem args_kept {r : PUnit × MemSt nD τ sig (Elt F)} (h : Pipeline.RDat.FramePost (cfg0 (adm m)) (rdat m hix) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine ⟨?_, ?_, ?_, ?_, ?_, ?_⟩
  · exact ((h c).2 main_arg0 (rest_of main_arg0 (by decide))).trans (V_of m c main_arg0 (by decide) (by decide))
  · exact ((h c).2 main_arg1 (rest_of main_arg1 (by decide))).trans (V_of m c main_arg1 (by decide) (by decide))
  · exact (h.arr_in c (0 : Fin 5) rfl).trans (V_of m c main_arg2 (by decide) (by decide))
  · exact ((h c).2 main_arg3 (rest_of main_arg3 (by decide))).trans (V_of m c main_arg3 (by decide) (by decide))
  · exact ((h c).2 main_arg4 (rest_of main_arg4 (by decide))).trans (V_of m c main_arg4 (by decide) (by decide))
  · exact (h.arr_in c (3 : Fin 5) rfl).trans (V_of m c main_arg5 (by decide) (by decide))

end Ends

end Cert.KernelIdeal.Hand

end
-- ==== Proof.IdealMath.lean ====
/- The ideal kernel's arithmetic: what its two layers compute, element by element. -/
module

public import proofs.«01_k».proof.Proof.IdealPoints
public import Idealize.ShloMosaic.Lib.MatmulPlain
public import Idealize.ShloMosaic.Lib.ValueIdx
public import Idealize.ShloMosaic.Lib.ValueLayout
public import Idealize.ShloMosaic.Lib.Pipeline.Value
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.ValueIdx
open scoped BigOperators

/-- The zero the kernel starts from. -/
theorem zero_bits : Ideal.ofBits .f32 0x00000000#32 = 0 := by
  simp [Ideal.ofBits, Ideal.ieee]

/-- The first layer's partial sums grow by one half of the row against one block of the matrix. -/
theorem pay2_at (h : S1x128.Idx → Elt Ideal .f32) (g : S1x12800.Idx → Elt Ideal .f32) (w : S12800x128.Idx → Elt Ideal .f32) (k : Fin 128) :
    k0_pay2 (F := Ideal) h g w (ix2 0 k) = (h (ix2 0 k) + ∑ i : Fin 12800, g (ix2 0 i) * w (ix2 i k) : EReal) := by
  unfold k0_pay2
  rw [shapeCast_apply _ _ _ (ix2 0 k) rfl]
  show (h (ix2 0 k) + _ : EReal) = _
  refine congrArg (fun z : EReal => (h (ix2 0 k) : EReal) + z) ?_
  refine (Ideal.matmul_plain_apply none _ _ _ 0 k).trans ?_
  show (Ideal.ofBits .f32 0x00000000#32 + _ : EReal) = _
  rw [zero_bits, zero_add]
  rfl

/-- They start from zero. -/
theorem pay1_at (x : S1x128.Idx) : k0_pay1 (F := Ideal) x = (0 : EReal) := by
  unfold k0_pay1
  rw [shapeCast_apply _ _ _ x rfl]
  exact zero_bits

/-- The second layer, one column of it. -/
theorem pay3_at (h b : S1x128.Idx → Elt Ideal .f32) (w : S16384x128.Idx → Elt Ideal .f32) (d : S16384.Idx → Elt Ideal .f32) (j : Fin 16384) :
    k0_pay3 (F := Ideal) h b w d (ix2 0 j)
      = ((∑ k : Fin 128, max (h (ix2 0 k) + b (ix2 0 k) : EReal) 0 * w (ix2 j k)) + d (ix1 j) : EReal) := by
  unfold k0_pay3
  show (_ + _ : EReal) = _
  rw [shapeCast_a_1a_apply]
  refine congrArg (fun z : EReal => z + (d (ix1 j) : EReal)) ?_
  refine (Ideal.matmul_transposedRhs_apply none _ _ _ 0 j).trans ?_
  show (Ideal.ofBits .f32 0x00000000#32 + _ : EReal) = _
  rw [zero_bits, zero_add]
  refine Finset.sum_congr rfl fun k _ => ?_
  show (max (h (ix2 0 k) + shapeCast S1x128 b _ (ix2 0 k) : EReal) (Ideal.ofBits .f32 0x00000000#32) * shapeCast S16384x128 w _ (ix2 j k) : EReal) = _
  rw [zero_bits]
  rw [shapeCast_apply b _ _ (ix2 0 k) rfl, shapeCast_apply w _ _ (ix2 j k) rfl]

/-! ## The function both programs compute -/

/-- The hidden layer: a row of 25600 numbers through the first matrix, plus its bias, cut off below at zero. -/
def hidden (e : Fin 25600 → EReal) (W : S25600x128.Idx → EReal) (b : Fin 128 → EReal) (k : Fin 128) : EReal :=
  max ((∑ i : Fin 25600, e i * W (ix2 i k)) + b k) 0

/-- The result: the hidden layer through the second matrix, plus its bias. -/
def result (e : Fin 25600 → EReal) (W : S25600x128.Idx → EReal) (b : Fin 128 → EReal) (W' : Fin 128 → Fin 100000 → EReal) (b' : Fin 100000 → EReal)
    (j : Fin 100000) : EReal :=
  (∑ k : Fin 128, hidden e W b k * W' k j) + b' j

/-- Equal arguments, equal results. -/
theorem result_eq {ix ix' : S200.Idx → BitVec 32} (hix : InRange ix) (hix' : InRange ix') {T T' : S100000x128.Idx → Elt Ideal .f32}
    {W W₁ : S25600x128.Idx → Elt Ideal .f32} {b b₁ : S128.Idx → Elt Ideal .f32} {U U₁ : S128x100000.Idx → Elt Ideal .f32}
    {d d₁ : S100000.Idx → Elt Ideal .f32} (e0 : ix = ix') (e1 : T = T') (e2 : W = W₁) (e3 : b = b₁) (e4 : U = U₁) (e5 : d = d₁) (j : Fin 100000) :
    result (fun i => gathered ix hix T (ix2 0 i)) W (fun k => b (ix1 k)) (fun k j => U (ix2 k j)) (fun j => d (ix1 j)) j
      = result (fun i => gathered ix' hix' T' (ix2 0 i)) W₁ (fun k => b₁ (ix1 k)) (fun k j => U₁ (ix2 k j)) (fun j => d₁ (ix1 j)) j := by
  subst e0 e1 e2 e3 e4 e5
  rfl

section Layers

variable (ix : S200.Idx → BitVec 32) (hix : InRange ix) (T : S100000x128.Idx → Elt Ideal .f32) (M : Fin 2 → S12800x128.Idx → Elt Ideal .f32)

/-- The two halves together are the whole row against the whole matrix. -/
theorem acc2_at (W : S25600x128.Idx → Elt Ideal .f32)
    (hM : ∀ (b : Fin 2) (r : Fin 12800) (k : Fin 128), M b (ix2 r k) = W (ix2 (⟨12800 * b.val + r.val, by have := b.isLt; omega⟩ : Fin 25600) k)) (k : Fin 128) :
    acc2 ix hix T M (ix2 0 k) = (∑ i : Fin 25600, gathered ix hix T (ix2 0 i) * W (ix2 i k) : EReal) := by
  unfold acc2 acc1
  rw [pay2_at, pay2_at, pay1_at, zero_add]
  refine Eq.trans ?_ (Fin.sum_univ_add (a := 12800) (b := 12800) (fun i => (gathered ix hix T (ix2 0 i) * W (ix2 i k) : EReal))).symm
  refine congrArg₂ (· + ·) ?_ ?_
  all_goals
    refine Finset.sum_congr rfl fun i _ => ?_
    rw [hM]
    unfold halfOf
    refine congrArg₂ (fun p q : EReal => p * q) (congrArg _ ?_) (congrArg _ ?_)
    all_goals
      funext x
      refine Fin.ext ?_
      match x with
      | ⟨0, _⟩ => first | rfl | exact Nat.zero_add _
      | ⟨1, _⟩ => first | rfl | exact Nat.zero_add _

end Layers

end Cert.KernelIdeal.Hand

end
-- ==== Proof.IdealFetch.lean ====
/- What the ideal kernel's input buffers hold, element by element. -/
module

public import proofs.«01_k».proof.Proof.IdealEnds
public import proofs.«01_k».proof.Proof.IdealMath
public import Idealize.ShloMosaic.Lib.Pipeline.ValueKit.Geometry
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open scoped BigOperators

section Fetch

variable (a : (pcfg0 (F := Ideal)).Adm) (c : Dev nD) (A : (w : Fin (cfg0 a).W) → Buf (Elt Ideal) (((cfg0 a).win w).arr.view.loc (c.tc : Thread nD τ)))

/-- A moved element of a fetched buffer is the array's. -/
theorem fet_at (w : Fin (cfg0 a).W) (t : Fin (cfg0 a).N) (d) (y : (((cfg0 a).win w).xblock ((cfg0 a).grid.coords t)).Idx) :
    fet a c A w t d (((cfg0 a).win w).xinj ((cfg0 a).grid.coords t) y) = (((cfg0 a).win w).blk t).view.read (Elt Ideal) (A w) y :=
  ((cfg0 a).win w).fill_xinj _ _ _ y

/-- Where the first matrix's block starts, at the points that read it. -/
theorem start0 : ∀ b : Fin 2, cc0_transform_1 (pt b) = ![b.val, 0] := by decide +kernel

/-- The first matrix's blocks are its two halves. -/
theorem mats_at (b : Fin 2) (r : Fin 12800) (k : Fin 128) :
    mats a c A b (ix2 r k) = A 0 (ix2 (⟨12800 * b.val + r.val, by have := b.isLt; omega⟩ : Fin 25600) k) := by
  unfold mats some'
  refine (fet_at a c A 0 _ _ fun x => ⟨(ix2 r k x).val, (ix2 r k x).isLt⟩).trans ?_
  refine congrArg (A 0) ?_
  blk_ext
  · show cc0_transform_1 (pt b) 0 * 12800 + r.val = 12800 * b.val + r.val
    rw [start0]
    show b.val * 12800 + r.val = _
    omega
  · show cc0_transform_1 (pt b) 1 * 128 + k.val = k.val
    rw [start0]
    show 0 * 128 + k.val = _
    omega

/-- The first layer's bias is fetched whole. -/
theorem bias_at (t : Fin (cfg0 a).N) (k : Fin 128) : some' a c A 1 t (ix2 0 k) = A 1 (ix2 0 k) := by
  unfold some'
  refine (fet_at a c A 1 _ _ fun x => ⟨(ix2 0 k x).val, (ix2 0 k x).isLt⟩).trans ?_
  refine congrArg (A 1) ?_
  blk_ext
  · rfl
  · show 0 * 128 + k.val = k.val
    omega

/-- The column of the result where the block of a point starts. -/
def colOf (t : Fin (cfg0 a).N) : ℕ := cc0_transform_5 (grid0.coords t) 1 * 16384

/-- The part of a block inside its array is moved. -/
theorem moved_of {i s d j : ℕ} (h1 : j < s) (h2 : i * s + j < d) : j < (Pipeline.Clip.of i s d).extent s := by
  unfold Pipeline.Clip.of
  split
  · exact h1
  · show j < d - i * s
    omega

/-- The second matrix's rows are fetched where they are in the matrix. -/
theorem rows_at (t : Fin (cfg0 a).N) (d) (j : Fin 16384) (k : Fin 128) (h : colOf a t + j.val < 100000) :
    fet a c A 2 t d (ix2 j k) = A 2 (ix2 (⟨colOf a t + j.val, h⟩ : Fin 100000) k) := by
  refine (fet_at a c A 2 t d fun x => ⟨(ix2 j k x).val, ?_⟩).trans ?_
  · match x with
    | ⟨0, _⟩ => exact moved_of j.isLt h
    | ⟨1, _⟩ => exact moved_of (i := 0) (d := 128) k.isLt (by have := k.isLt; omega)
  refine congrArg (A 2) ?_
  blk_ext
  · rfl
  · show 0 * 128 + k.val = k.val
    omega

/-- And its bias. -/
theorem bias2_at (t : Fin (cfg0 a).N) (d) (j : Fin 16384) (h : colOf a t + j.val < 100000) :
    fet a c A 3 t d (ix1 j) = A 3 (ix1 (⟨colOf a t + j.val, h⟩ : Fin 100000)) := by
  refine (fet_at a c A 3 t d fun x => ⟨(ix1 j x).val, ?_⟩).trans ?_
  · match x with
    | ⟨0, _⟩ => exact moved_of j.isLt h
  refine congrArg (A 3) ?_
  blk_ext
  rfl

end Fetch

end Cert.KernelIdeal.Hand

end
-- ==== Proof.IdealValue.lean ====
/- What the ideal kernel leaves in its result: the perceptron of the gathered rows. -/
module

public import proofs.«01_k».proof.Proof.IdealFetch
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open scoped BigOperators

/-! ## The schedule, decided at one choice of tables: it is the same at every other -/

def adm0 : (pcfg0 (F := Ideal)).Adm := ⟨fun | (0 : Fin 1) => fun _ => (0#32 : BitVec 32), trivial⟩

theorem covers0 : ((cfg0 adm0).win 4).Covers := by decide +kernel

/-- The result's blocks are written back, each at some point. -/
theorem covers (a : (pcfg0 (F := Ideal)).Adm) : ((cfg0 a).win 4).Covers := covers0

theorem flushes0 : ∀ t : Fin (cfg0 adm0).N, ((cfg0 adm0).win 4).flush t = true → 2 ≤ t.val := by decide +kernel

/-- And none before the second layer's points. -/
theorem flushes (a : (pcfg0 (F := Ideal)).Adm) : ∀ t : Fin (cfg0 a).N, ((cfg0 a).win 4).flush t = true → 2 ≤ t.val := flushes0

section Value

variable (m : (ℓ : Loc nD τ sig) → Buf (Elt Ideal) ℓ)

/-- The first bias, laid out as a row by the host. -/
theorem bias_row (c : Dev nD) (k : Fin 128) : V m c main_v0 (ix2 (0 : Fin 1) k) = m ((c : Thread nD τ).loc main_arg3) (ix1 k) := by
  have e : V m c main_v0 = shapeCast S1x128 (m ((c : Thread nD τ).loc main_arg3)) shapeCasts_S128_S1x128 := by
    unfold V
    after_results_simp <;> rfl
  rw [e]
  exact shapeCast_a_1a_apply _ _ _ _

/-- The second matrix, turned by the host. -/
theorem turned (c : Dev nD) (j : Fin 100000) (k : Fin 128) : V m c main_v1 (ix2 j k) = m ((c : Thread nD τ).loc main_arg4) (ix2 k j) := by
  have e : V m c main_v1 = transpose S100000x128 [1, 0] (m ((c : Thread nD τ).loc main_arg4)) transposes_S128x100000_S100000x128_1_0 := by
    unfold V
    after_results_simp <;> rfl
  rw [e]
  exact transpose_ix2_apply _ _ _ _

variable (hix : InRange (toks (adm m)))

/-- One element of a written block. -/
theorem column_at (c : Dev nD) (t : Fin (cfg0 (adm m)).N) (X) (hX : outRel (adm m) c (arrs m c) (table m c) hix 4 t X) (ht : 2 ≤ t.val)
    (j : Fin 16384) (h : colOf (adm m) t + j.val < 100000) :
    X (ix2 (0 : Fin 1) j) = result (fun i => gathered (toks (adm m)) hix (table m c) (ix2 0 i)) (m ((c : Thread nD τ).loc main_arg2))
      (fun k => m ((c : Thread nD τ).loc main_arg3) (ix1 k)) (fun k j => m ((c : Thread nD τ).loc main_arg4) (ix2 k j))
      (fun j => m ((c : Thread nD τ).loc main_arg5) (ix1 j)) ⟨colOf (adm m) t + j.val, h⟩ := by
  obtain ⟨d2, d3, e⟩ := hX ht
  refine (congrFun e _).trans ((pay3_at _ _ _ _ j).trans ?_)
  unfold result hidden
  refine congrArg₂ (fun p q : EReal => p + q) (Finset.sum_congr rfl fun k _ => ?_) ?_
  · refine congrArg₂ (fun p q : EReal => max p 0 * q) (congrArg₂ (fun p q : EReal => p + q) ?_ ?_) ?_
    · refine acc2_at _ _ _ _ (m ((c : Thread nD τ).loc main_arg2)) (fun b r k => ?_) k
      exact (mats_at _ _ _ b r k).trans (congrFun (V_of m c main_arg2 (by decide) (by decide)) _)
    · exact (bias_at _ _ _ t k).trans (bias_row m c k)
    · exact (rows_at _ _ _ t d2 j k h).trans (turned m c _ k)
  · exact (bias2_at _ _ _ t d3 j h).trans (congrFun (V_of m c main_arg5 (by decide) (by decide)) _)

/-- The kernel's result after a run. -/
theorem value {r : PUnit × MemSt nD τ sig (Elt Ideal)} (h : Pipeline.RDat.FramePost (cfg0 (adm m)) (rdat m hix) (V m) r) (c : Dev nD) :
    r.2.mem ((c : Thread nD τ).loc main_v2) = fun x : S1x100000.Idx =>
      result (fun i => gathered (toks (adm m)) hix (table m c) (ix2 0 i)) (m ((c : Thread nD τ).loc main_arg2))
        (fun k => m ((c : Thread nD τ).loc main_arg3) (ix1 k)) (fun k j => m ((c : Thread nD τ).loc main_arg4) (ix2 k j))
        (fun j => m ((c : Thread nD τ).loc main_arg5) (ix1 j)) (x 1) := by
  obtain ⟨after, hl, he⟩ := h.exists_exact c
  refine (he 4).trans ?_
  refine Pipeline.Dat.arrAt_eq_of_covers (dat := (rdat m hix c).withAfter after) 4 _ (covers _) fun t hf y => ?_
  rw [Pipeline.RDat.withAfter_after]
  have hX := (dat (adm m) c (arrs m c) (table m c) hix).toRRel_leaves (fgt := rel (adm m)) rfl (hl 4 t hf)
  have h0 : (y (0 : Fin 2)).val < 1 := lt_of_lt_of_le (y (0 : Fin 2)).isLt (((cfg0 (adm m)).win 4).xsize_le ((cfg0 (adm m)).grid.coords t) (0 : Fin 2))
  have h1 : (y (1 : Fin 2)).val < 16384 := lt_of_lt_of_le (y (1 : Fin 2)).isLt (((cfg0 (adm m)).win 4).xsize_le ((cfg0 (adm m)).grid.coords t) (1 : Fin 2))
  have e1 : ((((cfg0 (adm m)).win 4).blk t).view.emb y (1 : Fin 2)).val = colOf (adm m) t + (y (1 : Fin 2)).val := by
    blk_simp
    rfl
  have h2 : colOf (adm m) t + (y (1 : Fin 2)).val < 100000 := e1 ▸ ((((cfg0 (adm m)).win 4).blk t).view.emb y (1 : Fin 2)).isLt
  have ey : ((cfg0 (adm m)).win 4).xinj ((cfg0 (adm m)).grid.coords t) y = ix2 (0 : Fin 1) (⟨(y (1 : Fin 2)).val, h1⟩ : Fin 16384) := by
    funext x
    refine Fin.ext ?_
    match x with
    | ⟨0, _⟩ => exact Nat.lt_one_iff.mp h0
    | ⟨1, _⟩ => rfl
  refine ((congrArg (after 4 t) ey).trans (column_at m hix c t (after 4 t) hX (flushes _ t hf) ⟨(y (1 : Fin 2)).val, h1⟩ h2)).trans ?_
  exact congrArg (result _ _ _ _ _) (Fin.ext e1.symm)

end Value

end Cert.KernelIdeal.Hand

end
-- ==== Proof.RefValue.lean ====
/- What the reference computes: the same perceptron of the same rows, when the token numbers are rows of the table. -/
module

public import proofs.«01_k».proof.Proof.IdealMath
public import proofs.«01_k».proof.Proof.Gen.ReferenceIdeal
public import proofs.«01_k».proof.Proof.Gen.ReferenceIdeal.Run
public import Idealize.ShloMosaic.Lib.Routing.Ops
public import Idealize.ShloMosaic.Lib.StackMember
public import Idealize.ShloMosaic.Lib.ReduceAll
public import Idealize.ShloMosaic.Lib.IdealHost

@[expose] public section

set_option maxRecDepth 16384

noncomputable section

namespace Cert.ReferenceIdeal.Hand

open Cert.ReferenceIdeal Cert.ReferenceIdeal.Gen
open Cert.KernelIdeal.Hand (InRange word at1 at2 gathered result)
open Idealize.ShloMosaic Idealize.ShloMosaic.TcCoe Idealize.ShloMosaic.ValueIdx
open scoped BigOperators

/-! ## Words in the table's range -/

/-- Such a word is not negative, -/
theorem not_neg (w : BitVec 32) (h : w.toNat < 100000) : IntOp.cmpi .slt w 0#32 = 0#1 := by
  have e : w.toInt = w.toNat := by rw [BitVec.toInt_eq_toNat_cond]; split <;> omega
  show BitVec.ofBool (w.slt 0#32) = 0#1
  have : w.slt 0#32 = false := by
    simp only [BitVec.slt, decide_eq_false_iff_not, e, BitVec.toInt_zero]
    omega
  rw [this]
  rfl

/-- is at least zero -/
theorem ge_zero (w : BitVec 32) (h : w.toNat < 100000) : IntOp.cmpi .sge w 0#32 = 1#1 := by
  have e : w.toInt = w.toNat := by rw [BitVec.toInt_eq_toNat_cond]; split <;> omega
  show BitVec.ofBool ((0#32).sle w) = 1#1
  have : (0#32).sle w = true := by
    simp only [BitVec.sle, decide_eq_true_eq, e, BitVec.toInt_zero]
    omega
  rw [this]
  rfl

/-- and at most the last row. -/
theorem le_last (w : BitVec 32) (h : w.toNat < 100000) : IntOp.cmpi .sle w 99999#32 = 1#1 := by
  have e : w.toInt = w.toNat := by rw [BitVec.toInt_eq_toNat_cond]; split <;> omega
  show BitVec.ofBool (w.sle 99999#32) = 1#1
  have e' : (99999#32 : BitVec 32).toInt = 99999 := by decide
  have : w.sle 99999#32 = true := by
    simp only [BitVec.sle, decide_eq_true_eq, e, e']
    omega
  rw [this]
  rfl

section Lookup

variable (tok : S200.Idx → BitVec 32) (T : S100000x128.Idx → Elt Ideal .f32)

/-- The row numbers as the reference prepares them: a negative one counted from the table's end. -/
def rowNo : IVec S200x1 32 :=
  broadcastInDim S200x1 ![0] bcast_S200_S200x1_0 (select (cmpi .slt tok (broadcastInDim S200 ![] bcast_S_S200 (constantI S_ 32 0#32)))
    (addi tok (broadcastInDim S200 ![] bcast_S_S200 (constantI S_ 32 100000#32))) tok)

/-- Which of them are rows of the table. -/
def known : IVec S200 1 :=
  Host.reduce IntOp.andi (andi (cmpi .sge (rowNo tok) (broadcastInDim S200x1 ![] bcast_S_S200x1 (constantI S_ 32 0#32)))
    (cmpi .sle (rowNo tok) (broadcastInDim S200x1 ![0, 1] bcast_S1x1_S200x1_0_1 (broadcastInDim S1x1 ![1] bcast_S1_S1x1_1 (constantI S1 32 99999#32)))))
    (constantI S_ 1 1#1) reducesTo_S200x1_S200_d1 h_S_

/-- The rows the reference looks up, end to end. -/
def looked : FVec Ideal S1x25600 .f32 :=
  shapeCast _ (select (broadcastInDim S200x128 ![0] bcast_S200_S200x128_0 (known tok))
    (Host.gather gather_S100000x128_S200x1_S200x128_1_0_n_n_0_1_1128 T (rowNo tok))
    (broadcastInDim S200x128 ![] bcast_S_S200x128 (constant S_ .f32 0x7FC00000#32))) shapeCasts_S200x128_S1x25600

variable (hix : InRange tok)
include hix

/-- In range, a row number is the token's word. -/
theorem rowNo_at (r : Fin 200) : rowNo tok (ix2 r (0 : Fin 1)) = word tok r := by
  unfold rowNo
  refine (broadcastInDim_apply ![0] bcast_S200_S200x1_0 _ (ix2 r (0 : Fin 1)) (at1 r) fun x => ?_).trans ?_
  · match x with
    | ⟨0, _⟩ => rfl
  · show Scalar.select (IntOp.cmpi .slt (word tok r) 0#32) _ (word tok r) = word tok r
    rw [not_neg _ (hix r)]
    rfl

/-- All of them are rows of the table. -/
theorem known_at (x : S200.Idx) : known tok x = 1#1 := by
  unfold known
  refine Host.reduce_andi_one _ _ _ _ _ rfl fun y => ?_
  obtain ⟨r, ey⟩ : ∃ r : Fin 200, y = ix2 r (0 : Fin 1) := ⟨y 0, by
    funext a
    match a with
    | ⟨0, _⟩ => rfl
    | ⟨1, _⟩ => exact Fin.ext (Nat.lt_one_iff.mp (y 1).isLt)⟩
  rw [ey]
  show IntOp.andi (IntOp.cmpi .sge (rowNo tok (ix2 r (0 : Fin 1))) 0#32) (IntOp.cmpi .sle (rowNo tok (ix2 r (0 : Fin 1))) 99999#32) = 1#1
  rw [rowNo_at tok hix, ge_zero _ (hix _), le_last _ (hix _)]
  rfl

/-- The reference looks up what the kernel gathers. -/
theorem looked_at (i : Fin 25600) : looked tok T (ix2 (0 : Fin 1) i) = gathered tok hix T (ix2 (0 : Fin 1) i) := by
  unfold looked
  have hr : i.val / 128 < 200 := by have := i.isLt; omega
  refine (shapeCast_apply _ _ _ (ix2 (⟨i.val / 128, hr⟩ : Fin 200) (⟨i.val % 128, Nat.mod_lt _ (by decide)⟩ : Fin 128)) ?_).trans ?_
  · rw [Shape.rowMajor_val_two, Shape.rowMajor_val_two]
    show i.val / 128 * 128 + i.val % 128 = 0 * 25600 + i.val
    omega
  · show Scalar.select (known tok _) (Host.gather gather_S100000x128_S200x1_S200x128_1_0_n_n_0_1_1128 T (rowNo tok) _) _ = _
    rw [known_at tok hix, select_one]
    refine (Routing.gather_row _ rfl rfl rfl rfl rfl T (rowNo tok) _ _ ⟨(word tok ⟨i.val / 128, hr⟩).toNat, hix _⟩ ?_ (by decide)).trans ?_
    · rw [rowNo_at tok hix]
      simp
    · unfold gathered
      refine congrArg T (funext fun a => ?_)
      match a with
      | ⟨0, _⟩ => rfl
      | ⟨1, _⟩ => rfl

/-- One column of the reference's result. -/
theorem column (W : S25600x128.Idx → Elt Ideal .f32) (b : S128.Idx → Elt Ideal .f32) (W' : S128x100000.Idx → Elt Ideal .f32)
    (b' : S100000.Idx → Elt Ideal .f32) (j : Fin 100000) :
    addf (Host.dotGeneral (F := Ideal) (φ₁ := .f32) (φ₂ := .f32) dot_S1x128_S128x100000_S1x100000_1_0_0_1_n_n none
        (maximumf (addf (Host.dotGeneral (F := Ideal) (φ₁ := .f32) (φ₂ := .f32) dot_S1x25600_S25600x128_S1x128_1_0_0_1_n_n none (looked tok T) W) (broadcastInDim S1x128 ![1] bcast_S128_S1x128_1 b))
          (broadcastInDim S1x128 ![] bcast_S_S1x128 (constant S_ .f32 0x00000000#32))) W')
      (broadcastInDim S1x100000 ![1] bcast_S100000_S1x100000_1 b') (ix2 (0 : Fin 1) j)
      = result (fun i => gathered tok hix T (ix2 (0 : Fin 1) i)) W (fun k => b (ix1 k)) (fun k j => W' (ix2 k j)) (fun j => b' (ix1 j)) j := by
  unfold result Cert.KernelIdeal.Hand.hidden
  refine congrArg₂ (fun p q : EReal => p + q) ?_ ?_
  · refine (StackMember.dotGeneral_plain_apply none _ _ 0 j).trans (Finset.sum_congr rfl fun k _ => ?_)
    refine congrArg (fun p : EReal => p * W' (ix2 k j)) (congrArg₂ (fun p q : EReal => max p q) (congrArg₂ (fun p q : EReal => p + q) ?_ ?_) ?_)
    · refine (StackMember.dotGeneral_plain_apply none _ _ 0 k).trans (Finset.sum_congr rfl fun i _ => ?_)
      rw [looked_at tok T hix]
    · exact broadcastInDim_apply ![1] bcast_S128_S1x128_1 b (ix2 (0 : Fin 1) k) (ix1 k) fun x => match x with | ⟨0, _⟩ => rfl
    · exact Cert.KernelIdeal.Hand.zero_bits
  · exact broadcastInDim_apply ![1] bcast_S100000_S1x100000_1 b' (ix2 (0 : Fin 1) j) (ix1 j) fun x => match x with | ⟨0, _⟩ => rfl

end Lookup

end Cert.ReferenceIdeal.Hand

end
-- ==== Proof.lean ====
/- The proof of the claims: the runs of both kernels under the token numbers' range, the reference's run, and the two results equal. -/
module

public import proofs.«01_k».proof.Defs
public import proofs.«01_k».proof.Proof.Ends
public import proofs.«01_k».proof.Proof.IdealValue
public import proofs.«01_k».proof.Proof.RefValue
public import proofs.«01_k».proof.Proof.Gen.ReferenceIdeal
public import proofs.«01_k».proof.Proof.Gen.ReferenceIdeal.Run
public import proofs.«01_k».proof.Proof.Gen.Pre_tokens

@[expose] public section

noncomputable section

namespace Cert.Proof

open Idealize.ShloMosaic Idealize.ShloMosaic.TcCoe Idealize.ShloMosaic.ValueIdx Idealize.SL.Sem

/-- The kernel, on words: of token numbers in range every run ends, the arguments as they were and every counter at zero. -/
theorem frame_kernel : Cert.quiescent_Kernel := fun m g h =>
  (θ_run _ _ _).mono (fun r h' => ⟨fun c => Cert.Kernel.Hand.args_kept m _ h'.1 c, h'.2⟩)
    (Cert.Kernel.Hand.run m (Cert.Kernel.Hand.inRange m (h 0)) g)

/-- The same of the kernel over the extended reals. -/
theorem frame_ideal : Cert.quiescent_KernelIdeal := fun m g h =>
  (θ_run _ _ _).mono (fun r h' => ⟨fun c => Cert.KernelIdeal.Hand.args_kept m _ h'.1 c, h'.2⟩)
    (Cert.KernelIdeal.Hand.run m (Cert.KernelIdeal.Hand.inRange m (h 0)) g)

/-- Every run of the reference ends, with its arguments as they were and no counter raised. -/
theorem frame_reference : Cert.quiescent_ReferenceIdeal := fun m g _ =>
  (θ_run _ _ _).mono (fun r h => ⟨fun c => (h c).2, sem_eq_zero_of_no_sems (by decide) r.2⟩) (Cert.ReferenceIdeal.Value.run (F := Ideal) m g)

/-- The same under the token numbers' range, which the reference's run has no use for. -/
theorem frame_reference_tokens : Cert.quiescent_ReferenceIdeal_pre_tokens := fun m g _ =>
  (θ_run _ _ _).mono (fun r h => ⟨fun c => (h c).2, sem_eq_zero_of_no_sems (by decide) r.2⟩) (Cert.ReferenceIdeal.Value.run (F := Ideal) m g)

/-- The two programs' results are one function of the arguments. -/
theorem same : Cert.algebraic_KernelIdeal_ReferenceIdeal := fun m g m' g' h hag =>
  have hix := Cert.KernelIdeal.Hand.inRange m (h 0)
  ⟨fun c x => Cert.KernelIdeal.Hand.result
      (fun i => Cert.KernelIdeal.Hand.gathered (Cert.KernelIdeal.Hand.toks (Cert.KernelIdeal.Hand.adm m)) hix (Cert.KernelIdeal.Hand.table m c) (ix2 0 i))
      (m ((c.tc : Thread Cert.KernelIdeal.nD Cert.KernelIdeal.τ).loc Cert.KernelIdeal.main_arg2))
      (fun k => m ((c.tc : Thread Cert.KernelIdeal.nD Cert.KernelIdeal.τ).loc Cert.KernelIdeal.main_arg3) (ix1 k))
      (fun k j => m ((c.tc : Thread Cert.KernelIdeal.nD Cert.KernelIdeal.τ).loc Cert.KernelIdeal.main_arg4) (ix2 k j))
      (fun j => m ((c.tc : Thread Cert.KernelIdeal.nD Cert.KernelIdeal.τ).loc Cert.KernelIdeal.main_arg5) (ix1 j)) (x (1 : Fin 2)),
    (θ_run _ _ _).mono (fun r h' c => ⟨Cert.KernelIdeal.Hand.value m hix h'.1 c, Cert.KernelIdeal.Hand.args_kept m hix h'.1 c⟩)
      (Cert.KernelIdeal.Hand.run m hix g),
    (θ_run _ _ _).mono (fun r h' c => ⟨(h' c).1.trans (funext fun x => by
        have e0 : m' ((c.tc : Thread Cert.ReferenceIdeal.nD Cert.ReferenceIdeal.τ).loc Cert.ReferenceIdeal.main_arg0)
            = Cert.KernelIdeal.Hand.toks (Cert.KernelIdeal.Hand.adm m) := by
          rw [Cert.KernelIdeal.Hand.toks_eq, Cert.KernelIdeal.Hand.one_dev c]
          exact (hag 0).1
        have hix' : Cert.KernelIdeal.Hand.InRange (m' ((c.tc : Thread Cert.ReferenceIdeal.nD Cert.ReferenceIdeal.τ).loc Cert.ReferenceIdeal.main_arg0)) := by
          rw [e0]
          exact hix
        have e1 : Cert.KernelIdeal.Hand.table m c = m ((c.tc : Thread Cert.KernelIdeal.nD Cert.KernelIdeal.τ).loc Cert.KernelIdeal.main_arg1) :=
          Cert.KernelIdeal.Hand.V_of m c Cert.KernelIdeal.main_arg1 (by decide) (by decide)
        have ex : x = ix2 (0 : Fin 1) (x (1 : Fin 2)) := by
          funext a
          match a with
          | ⟨0, _⟩ => exact Fin.ext (Nat.lt_one_iff.mp (x (0 : Fin 2)).isLt)
          | ⟨1, _⟩ => rfl
        refine (congrArg _ ex).trans ((Cert.ReferenceIdeal.Hand.column _ _ hix' _ _ _ _ (x (1 : Fin 2))).trans ?_)
        exact Cert.KernelIdeal.Hand.result_eq hix' hix e0 ((hag c).2.1.trans e1.symm) (hag c).2.2.1 (hag c).2.2.2.1 (hag c).2.2.2.2.1 (hag c).2.2.2.2.2 _),
      (h' c).2⟩) (Cert.ReferenceIdeal.Value.run (F := Ideal) m' g')⟩

/-- All the claims together. -/
theorem claim : Cert.Claim := ⟨Cert.Kernel.Gen.facts, Cert.KernelIdeal.Gen.facts, Cert.ReferenceIdeal.Gen.facts, Cert.Pre_tokens.Gen.facts,
  frame_kernel, frame_ideal, frame_reference, frame_reference_tokens, trivial, same⟩

end Cert.Proof

end
